-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x512x3 : Shape := ⟨4, ![32, 512, 512, 3]⟩
abbrev S3 : Shape := ⟨1, ![3]⟩
abbrev S32x512x512 : Shape := ⟨3, ![32, 512, 512]⟩
abbrev S32x8x32768 : Shape := ⟨3, ![32, 8, 32768]⟩
abbrev S1x8x32768 : Shape := ⟨3, ![1, 8, 32768]⟩
abbrev S8x32768 : Shape := ⟨2, ![8, 32768]⟩
abbrev S1 : Shape := ⟨1, ![1]⟩
abbrev S1x1x1 : Shape := ⟨3, ![1, 1, 1]⟩
abbrev S8x16x8192 : Shape := ⟨3, ![8, 16, 8192]⟩
abbrev S128x128 : Shape := ⟨2, ![128, 128]⟩
abbrev S8x8192 : Shape := ⟨2, ![8, 8192]⟩
abbrev S8x1x8192 : Shape := ⟨3, ![8, 1, 8192]⟩
abbrev S128x8192 : Shape := ⟨2, ![128, 8192]⟩
abbrev S16x16 : Shape := ⟨2, ![16, 16]⟩
abbrev S1x16x16 : Shape := ⟨3, ![1, 16, 16]⟩
abbrev S32x512x512x1 : Shape := ⟨4, ![32, 512, 512, 1]⟩
abbrev S32x512x512x1x3 : Shape := ⟨5, ![32, 512, 512, 1, 3]⟩

abbrev nBuf : Space → Nat
  | .hbm => 9
  | .vmem => 4
  | .smem => 0
  | _ => 0

abbrev bufTy : (tb : Table) → Fin (tcTables nBuf tb) → BufTy
  | .hbm, ⟨0, _⟩ => ⟨S32x512x512x3, .f32⟩
  | .hbm, ⟨1, _⟩ => ⟨S3, .f32⟩
  | .hbm, ⟨2, _⟩ => ⟨S32x512x512, .f32⟩
  | .hbm, ⟨3, _⟩ => ⟨S32x8x32768, .f32⟩
  | .hbm, ⟨4, _⟩ => ⟨S32x8x32768, .f32⟩
  | .hbm, ⟨5, _⟩ => ⟨S32x512x512, .f32⟩
  | .hbm, ⟨6, _⟩ => ⟨S32x512x512x1, .f32⟩
  | .hbm, ⟨7, _⟩ => ⟨S32x512x512x1x3, .f32⟩
  | .hbm, ⟨8, _⟩ => ⟨S32x512x512x3, .f32⟩
  | .local _ .vmem, ⟨0, _⟩ => ⟨S1x8x32768, .f32⟩
  | .local _ .vmem, ⟨1, _⟩ => ⟨S1x8x32768, .f32⟩
  | .local _ .vmem, ⟨2, _⟩ => ⟨S1x8x32768, .f32⟩
  | .local _ .vmem, ⟨3, _⟩ => ⟨S1x8x32768, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x512x512x3 : Shape := ⟨4, ![32, 512, 512, 3]⟩
abbrev S3 : Shape := ⟨1, ![3]⟩
abbrev S32x512x512 : Shape := ⟨3, ![32, 512, 512]⟩
abbrev S32x262144 : Shape := ⟨2, ![32, 262144]⟩
abbrev S_ : Shape := ⟨0, ![]⟩
abbrev S32 : Shape := ⟨1, ![32]⟩
abbrev S32x1 : Shape := ⟨2, ![32, 1]⟩
abbrev S32x256 : Shape := ⟨2, ![32, 256]⟩
abbrev S8388608 : Shape := ⟨1, ![8388608]⟩
abbrev S8388608x1 : Shape := ⟨2, ![8388608, 1]⟩
abbrev S8388608x2 : Shape := ⟨2, ![8388608, 2]⟩
abbrev S256 : Shape := ⟨1, ![256]⟩
abbrev S1x256 : Shape := ⟨2, ![1, 256]⟩
abbrev S32x255 : Shape := ⟨2, ![32, 255]⟩
abbrev S32x1x1 : Shape := ⟨3, ![32, 1, 1]⟩
abbrev S1 : Shape := ⟨1, ![1]⟩
abbrev S1x1x1 : Shape := ⟨3, ![1, 1, 1]⟩
abbrev S32x512x512x1 : Shape := ⟨4, ![32, 512, 512, 1]⟩
abbrev S32x512x512x1x3 : Shape := ⟨5, ![32, 512, 512, 1, 3]⟩

abbrev nBuf : Space → Nat
  | .hbm => 133
  | .vmem => 0
  | .smem => 0
  | _ => 0

abbrev hbmTy0_0 (i : Nat) : BufTy := match i % 128 with
  | 0 => ⟨S32x512x512x3, .f32⟩
  | 1 => ⟨S3, .f32⟩
  | 2 => ⟨S32x512x512, .f32⟩
  | 3 => ⟨S32x262144, .f32⟩
  | 4 => ⟨S_, .f32⟩
  | 5 => ⟨S32, .f32⟩
  | 6 => ⟨S32x1, .f32⟩
  | 7 => ⟨S_, .f32⟩
  | 8 => ⟨S32, .f32⟩
  | 9 => ⟨S32x1, .f32⟩
  | 10 => ⟨S32x1, .f32⟩
  | 11 => ⟨S_, .f32⟩
  | 12 => ⟨S32x1, .f32⟩
  | 13 => ⟨S32x1, .f32⟩
  | 14 => ⟨S_, .f32⟩
  | 15 => ⟨S32x1, .f32⟩
  | 16 => ⟨S32x1, .f32⟩
  | 17 => ⟨S32x262144, .f32⟩
  | 18 => ⟨S32x262144, .f32⟩
  | 19 => ⟨S32x262144, .f32⟩
  | 20 => ⟨S32x262144, .f32⟩
  | 21 => ⟨S32x262144, .i32⟩
  | 22 => ⟨S_, .i32⟩
  | 23 => ⟨S_, .i32⟩
  | 24 => ⟨S_, .i32⟩
  | 25 => ⟨S32x262144, .i32⟩
  | 26 => ⟨S32x262144, .i32⟩
  | 27 => ⟨S_, .i32⟩
  | 28 => ⟨S32x262144, .i32⟩
  | 29 => ⟨S32x262144, .i32⟩
  | 30 => ⟨S32, .i32⟩
  | 31 => ⟨S32x1, .i32⟩
  | 32 => ⟨S32x262144, .i32⟩
  | 33 => ⟨S_, .f32⟩
  | 34 => ⟨S32x256, .f32⟩
  | 35 => ⟨S8388608, .i32⟩
  | 36 => ⟨S8388608, .i32⟩
  | 37 => ⟨S_, .i32⟩
  | 38 => ⟨S8388608, .i32⟩
  | 39 => ⟨S8388608, .i1⟩
  | 40 => ⟨S_, .i32⟩
  | 41 => ⟨S8388608, .i32⟩
  | 42 => ⟨S8388608, .i32⟩
  | 43 => ⟨S8388608, .i32⟩
  | 44 => ⟨S_, .i32⟩
  | 45 => ⟨S8388608, .i32⟩
  | 46 => ⟨S8388608, .i1⟩
  | 47 => ⟨S_, .i32⟩
  | 48 => ⟨S8388608, .i32⟩
  | 49 => ⟨S8388608, .i32⟩
  | 50 => ⟨S8388608, .i32⟩
  | 51 => ⟨S8388608x1, .i32⟩
  | 52 => ⟨S8388608x1, .i32⟩
  | 53 => ⟨S8388608x2, .i32⟩
  | 54 => ⟨S_, .f32⟩
  | 55 => ⟨S8388608, .f32⟩
  | 56 => ⟨S32x256, .f32⟩
  | 57 => ⟨S256, .f32⟩
  | 58 => ⟨S1x256, .f32⟩
  | 59 => ⟨S_, .f32⟩
  | 60 => ⟨S1x256, .f32⟩
  | 61 => ⟨S1x256, .f32⟩
  | 62 => ⟨S32x256, .f32⟩
  | 63 => ⟨S32x256, .f32⟩
  | 64 => ⟨S32x256, .f32⟩
  | 65 => ⟨S32x256, .f32⟩
  | 66 => ⟨S32x256, .f32⟩
  | 67 => ⟨S32x256, .f32⟩
  | 68 => ⟨S_, .f32⟩
  | 69 => ⟨S_, .f32⟩
  | 70 => ⟨S32x256, .f32⟩
  | 71 => ⟨S_, .f32⟩
  | 72 => ⟨S_, .f32⟩
  | 73 => ⟨S32x256, .f32⟩
  | 74 => ⟨S32x1, .f32⟩
  | 75 => ⟨S32x1, .f32⟩
  | 76 => ⟨S32x255, .f32⟩
  | 77 => ⟨S32x255, .f32⟩
  | 78 => ⟨S32x255, .f32⟩
  | 79 => ⟨S32x255, .f32⟩
  | 80 => ⟨S_, .f32⟩
  | 81 => ⟨S32x255, .f32⟩
  | 82 => ⟨S32x255, .f32⟩
  | 83 => ⟨S32x255, .f32⟩
  | 84 => ⟨S32x255, .f32⟩
  | 85 => ⟨S32x255, .f32⟩
  | 86 => ⟨S_, .f32⟩
  | 87 => ⟨S32x255, .f32⟩
  | 88 => ⟨S32x255, .f32⟩
  | 89 => ⟨S32x255, .f32⟩
  | 90 => ⟨S32x255, .f32⟩
  | 91 => ⟨S32x255, .f32⟩
  | 92 => ⟨S32x255, .f32⟩
  | 93 => ⟨S32x255, .f32⟩
  | 94 => ⟨S32x255, .i32⟩
  | 95 => ⟨S_, .f32⟩
  | 96 => ⟨S_, .i32⟩
  | 97 => ⟨S32, .f32⟩
  | 98 => ⟨S32, .i32⟩
  | 99 => ⟨S32x1, .i32⟩
  | 100 => ⟨S_, .i32⟩
  | 101 => ⟨S32x1, .i32⟩
  | 102 => ⟨S32x1, .i1⟩
  | 103 => ⟨S_, .i32⟩
  | 104 => ⟨S32x1, .i32⟩
  | 105 => ⟨S32x1, .i32⟩
  | 106 => ⟨S32x1, .i32⟩
  | 107 => ⟨S32x1x1, .i32⟩
  | 108 => ⟨S1, .i32⟩
  | 109 => ⟨S_, .i32⟩
  | 110 => ⟨S32x1x1, .i32⟩
  | 111 => ⟨S32x1x1, .i1⟩
  | 112 => ⟨S1x1x1, .i32⟩
  | 113 => ⟨S32x1x1, .i32⟩
  | 114 => ⟨S32x1x1, .i1⟩
  | 115 => ⟨S32x1x1, .i1⟩
  | 116 => ⟨S_, .i1⟩
  | 117 => ⟨S32x1, .i1⟩
  | 118 => ⟨S32x1, .f32⟩
  | 119 => ⟨S_, .f32⟩
  | 120 => ⟨S32x1, .f32⟩
  | 121 => ⟨S32x1, .f32⟩
  | 122 => ⟨S32x1x1, .f32⟩
  | 123 => ⟨S32x512x512, .f32⟩
  | 124 => ⟨S32x512x512, .i1⟩
  | 125 => ⟨S_, .f32⟩
  | 126 => ⟨S_, .f32⟩
  | 127 => ⟨S32x512x512, .f32⟩
  | _ => ⟨S32x512x512x3, .f32⟩

abbrev hbmTy0_1 (i : Nat) : BufTy := match i % 128 with
  | 0 => ⟨S32x512x512, .f32⟩
  | 1 => ⟨S32x512x512, .f32⟩
  | 2 => ⟨S32x512x512x1, .f32⟩
  | 3 => ⟨S32x512x512x1x3, .f32⟩
  | 4 => ⟨S32x512x512x3, .f32⟩
  | _ => ⟨S32x512x512x3, .f32⟩

abbrev hbmTy (i : Nat) : BufTy := match i / 128 with
  | 0 => hbmTy0_0 i
  | 1 => hbmTy0_1 i
  | _ => ⟨S32x512x512x3, .f32⟩

abbrev bufTy : (tb : Table) → Fin (tcTables nBuf tb) → BufTy
  | .hbm, ⟨i, _⟩ => hbmTy i
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_call0_cst : Ref sig .tc := ⟨.hbm, 68, rfl⟩
abbrev main_call1_call0_v0 : Ref sig .tc := ⟨.hbm, 69, rfl⟩
abbrev main_v48 : Ref sig .tc := ⟨.hbm, 70, rfl⟩
abbrev main_call2_call0_cst : Ref sig .tc := ⟨.hbm, 71, rfl⟩
abbrev main_call2_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call3_v0 : Ref sig .tc := ⟨.hbm, 94, rfl⟩
abbrev main_call3_cst : Ref sig .tc := ⟨.hbm, 95, rfl⟩
abbrev main_call3_c : Ref sig .tc := ⟨.hbm, 96, rfl⟩
abbrev main_call3_v1_0 : Ref sig .tc := ⟨.hbm, 97, rfl⟩
abbrev main_v68 : Ref sig .tc := ⟨.hbm, 98, rfl⟩
abbrev main_v69 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_14 : Ref sig .tc := ⟨.hbm, 125, rfl⟩
abbrev main_cst_15 : Ref sig .tc := ⟨.hbm, 126, rfl⟩
abbrev main_call5_v0 : Ref sig .tc := ⟨.hbm, 127, rfl⟩
abbrev main_call5_v1 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩

abbrev nD : Nat := 1
abbrev τ : Topo := Topo.v7x

variable {F : FTy → Type} [FloatOps F]
-- ==== Proof.RefRun.lean ====
/- The reference program's run, read back. @main is a straight line of host operations; they are listed here in six
   segments, and each segment's live results are stated as a named function of what the segment read (`grey`, `rowMin`,
   `scale`, `bins`, `hist`, `centre`, `variance`, `bestSplit`, `lookup`, `binarised`). `run` says that every execution
   ends with the result array at the composition of these functions of the argument, the argument unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## What the segments compute -/

/-- The grey image: each pixel's three channels against the three weights. -/
def grey (x : (⟨S32x512x512x3, .f32⟩ : BufTy).Contents (Elt F)) : (⟨S32x512x512, .f32⟩ : BufTy).Contents (Elt F) :=
  Host.dotGeneral dot_S32x512x512x3_S3_S32x512x512_3_0_012_n_n_n none x (fun i => FloatOps.ofBits .f32 (lit0 (S3.rowMajor i)))

/-- Each image's pixels in one row. -/
def rows (g : (⟨S32x512x512, .f32⟩ : BufTy).Contents (Elt F)) : (⟨S32x262144, .f32⟩ : BufTy).Contents (Elt F) :=
  shapeCast _ g shapeCasts_S32x512x512_S32x262144

/-- Each image's least grey value. -/
def rowMin (r : (⟨S32x262144, .f32⟩ : BufTy).Contents (Elt F)) : (⟨S32x1, .f32⟩ : BufTy).Contents (Elt F) :=
  broadcastInDim S32x1 ![0] bcast_S32_S32x1_0 (Host.reduce FloatOps.minimumf r (constant S_ .f32 0x7F800000#32) reducesTo_S32x262144_S32_d1 h_S_)

/-- Each image's greatest grey value. -/
def rowMax (r : (⟨S32x262144, .f32⟩ : BufTy).Contents (Elt F)) : (⟨S32x1, .f32⟩ : BufTy).Contents (Elt F) :=
  broadcastInDim S32x1 ![0] bcast_S32_S32x1_0 (Host.reduce FloatOps.maximumf r (constant S_ .f32 0xFF800000#32) reducesTo_S32x262144_S32_d1 h_S_)

/-- Bins per unit of grey value. -/
def scale (r : (⟨S32x262144, .f32⟩ : BufTy).Contents (Elt F)) : (⟨S32x1, .f32⟩ : BufTy).Contents (Elt F) :=
  Host.divf (broadcastInDim S32x1 ![] bcast_S_S32x1 (constant S_ .f32 0x43800000#32))
    (maximumf (subf (rowMax r) (rowMin r)) (broadcastInDim S32x1 ![] bcast_S_S32x1 (constant S_ .f32 0x2B8CBCCC#32)))

/-- Each pixel's bin. -/
def bins (r : (⟨S32x262144, .f32⟩ : BufTy).Contents (Elt F)) : (⟨S32x262144, .i32⟩ : BufTy).Contents (Elt F) :=
  minsi (broadcastInDim S32x262144 ![] bcast_S_S32x262144 (id (constantI S_ 32 255#32)))
    (maxsi (broadcastInDim S32x262144 ![] bcast_S_S32x262144 (id (constantI S_ 32 0#32)))
      (fptosi 32 (mulf (subf r (broadcastInDim S32x262144 ![0, 1] bcast_S32x1_S32x262144_0_1 (rowMin r)))
        (broadcastInDim S32x262144 ![0, 1] bcast_S32x1_S32x262144_0_1 (scale r)))))

/-- An index array with `n` added where it is negative. -/
def wrapped (n : BitVec 32) (v : (⟨S8388608, .i32⟩ : BufTy).Contents (Elt F)) : (⟨S8388608x1, .i32⟩ : BufTy).Contents (Elt F) :=
  broadcastInDim S8388608x1 ![0] bcast_S8388608_S8388608x1_0
    (select (cmpi .slt v (broadcastInDim S8388608 ![] bcast_S_S8388608 (constantI S_ 32 0#32)))
      (addi v (broadcastInDim S8388608 ![] bcast_S_S8388608 (constantI S_ 32 n))) v)

/-- Two index columns side by side. -/
def paired (a b : (⟨S8388608x1, .i32⟩ : BufTy).Contents (Elt F)) : (⟨S8388608x2, .i32⟩ : BufTy).Contents (Elt F) :=
  concatenate S8388608x2 1 [⟨S8388608x1, a⟩, ⟨S8388608x1, b⟩] concatenates_S8388608x1_S8388608x1_S8388608x2_d1

/-- Each pixel's image number, all images in one row. -/
def imageNo : (⟨S8388608, .i32⟩ : BufTy).Contents (Elt F) :=
  shapeCast _ (broadcastInDim S32x262144 ![0, 1] bcast_S32x1_S32x262144_0_1 (broadcastInDim S32x1 ![0] bcast_S32_S32x1_0 (iotaInDim S32 32 0)))
    shapeCasts_S32x262144_S8388608

/-- Each image's histogram: a one added at (image, bin) for each pixel. -/
def hist (b : (⟨S32x262144, .i32⟩ : BufTy).Contents (Elt F)) : (⟨S32x256, .f32⟩ : BufTy).Contents (Elt F) :=
  Host.scatterAdd scatter_S32x256_S8388608x2_S8388608_n_01_01_1
    (broadcastInDim S32x256 ![] bcast_S_S32x256 (constant S_ .f32 0x00000000#32))
    (paired (F := F) (wrapped (F := F) 32#32 (imageNo (F := F))) (wrapped (F := F) 256#32 (shapeCast _ b shapeCasts_S32x262144_S8388608)))
    (broadcastInDim S8388608 ![] bcast_S_S8388608 (constant S_ .f32 0x3F800000#32))

/-- Each bin's offset from the least grey value. -/
def offset (s : (⟨S32x1, .f32⟩ : BufTy).Contents (Elt F)) : (⟨S32x256, .f32⟩ : BufTy).Contents (Elt F) :=
  Host.divf (broadcastInDim S32x256 ![0, 1] bcast_S1x256_S32x256_0_1
      (addf (broadcastInDim S1x256 ![1] bcast_S256_S1x256_1 (sitofp .f32 (iotaInDim S256 32 0))) (broadcastInDim S1x256 ![] bcast_S_S1x256 (constant S_ .f32 0x3F000000#32))))
    (broadcastInDim S32x256 ![0, 1] bcast_S32x1_S32x256_0_1 s)

/-- Each bin's centre, from the least grey value and the scale. -/
def centre (mn s : (⟨S32x1, .f32⟩ : BufTy).Contents (Elt F)) : (⟨S32x256, .f32⟩ : BufTy).Contents (Elt F) :=
  addf (broadcastInDim S32x256 ![0, 1] bcast_S32x1_S32x256_0_1 mn) (offset s)

/-- The running sums along each row. -/
def runSum (h : (⟨S32x256, .f32⟩ : BufTy).Contents (Elt F)) : (⟨S32x256, .f32⟩ : BufTy).Contents (Elt F) :=
  Host.reduceWindowAdd ![1, 256] ![1, 1] ![0, 255] ![0, 0] h (broadcastInDim S_ ![] bcast_S_S_ (constant S_ .f32 0x00000000#32))
    reduceWindows_S32x256_S32x256_w1s1p0_0_w256s1p255_0 h_S_

/-- The entries of each row but the last. -/
def front (w : (⟨S32x256, .f32⟩ : BufTy).Contents (Elt F)) : (⟨S32x255, .f32⟩ : BufTy).Contents (Elt F) :=
  extractStridedSlice S32x255 ![0, 0] w slices_S32x256_S32x255_0_0

/-- What is left of each row's last entry after each earlier one. -/
def rest (w : (⟨S32x256, .f32⟩ : BufTy).Contents (Elt F)) : (⟨S32x255, .f32⟩ : BufTy).Contents (Elt F) :=
  subf (broadcastInDim S32x255 ![0, 1] bcast_S32x1_S32x255_0_1 (extractStridedSlice S32x1 ![0, 255] w slices_S32x256_S32x1_0_255)) (front w)

/-- A weighted sum over its weight, the weight kept off zero. -/
def mean (p w : (⟨S32x255, .f32⟩ : BufTy).Contents (Elt F)) : (⟨S32x255, .f32⟩ : BufTy).Contents (Elt F) :=
  Host.divf p (maximumf w (broadcastInDim S32x255 ![] bcast_S_S32x255 (constant S_ .f32 0x2B8CBCCC#32)))

/-- The variance between the two classes, from the running sums of the counts and of the weighted centres. -/
def variance (w p : (⟨S32x256, .f32⟩ : BufTy).Contents (Elt F)) : (⟨S32x255, .f32⟩ : BufTy).Contents (Elt F) :=
  mulf (mulf (front w) (rest w))
    (mulf (subf (mean (front p) (front w)) (mean (rest p) (rest w))) (subf (mean (front p) (front w)) (mean (rest p) (rest w))))

/-- Each row's split of largest variance. -/
def bestSplit (v : (⟨S32x255, .f32⟩ : BufTy).Contents (Elt F)) : (⟨S32, .i32⟩ : BufTy).Contents (Elt F) :=
  fun j => (Host.argReduce reducer_argmax_f32_i32 v (iotaInDim S32x255 32 1) (constant S_ .f32 0xFF800000#32) (constantI S_ 32 0#32)
    reducesTo_S32x255_S32_d1 h_S_ j).2

/-- A column of indices, 256 added where one is negative. -/
def column (a : (⟨S32, .i32⟩ : BufTy).Contents (Elt F)) : (⟨S32x1x1, .i32⟩ : BufTy).Contents (Elt F) :=
  shapeCast _ (select (cmpi .slt (broadcastInDim S32x1 ![0] bcast_S32_S32x1_0 a) (broadcastInDim S32x1 ![] bcast_S_S32x1 (constantI S_ 32 0#32)))
      (addi (broadcastInDim S32x1 ![0] bcast_S32_S32x1_0 a) (broadcastInDim S32x1 ![] bcast_S_S32x1 (constantI S_ 32 256#32)))
      (broadcastInDim S32x1 ![0] bcast_S32_S32x1_0 a)) shapeCasts_S32x1_S32x1x1

/-- Each row's entry at its index, for a column of indices that is checked against the row's length. -/
def picked (c : (⟨S32x256, .f32⟩ : BufTy).Contents (Elt F)) (i : (⟨S32x1x1, .i32⟩ : BufTy).Contents (Elt F)) : (⟨S32x1, .f32⟩ : BufTy).Contents (Elt F) :=
  select (Host.reduce IntOp.andi (andi (cmpi .sge i (broadcastInDim S32x1x1 ![] bcast_S_S32x1x1 (constantI S_ 32 0#32)))
      (cmpi .sle i (broadcastInDim S32x1x1 ![0, 1, 2] bcast_S1x1x1_S32x1x1_0_1_2 (broadcastInDim S1x1x1 ![2] bcast_S1_S1x1x1_2 (constantI S1 32 255#32)))))
      (constantI S_ 1 1#1) reducesTo_S32x1x1_S32x1_d2 h_S_)
    (Host.gather gather_S32x256_S32x1x1_S32x1_n_1_0_0_1_2_11 c i)
    (broadcastInDim S32x1 ![] bcast_S_S32x1 (constant S_ .f32 0x7FC00000#32))

/-- Each row's entry at its index. -/
def lookup (c : (⟨S32x256, .f32⟩ : BufTy).Contents (Elt F)) (a : (⟨S32, .i32⟩ : BufTy).Contents (Elt F)) : (⟨S32x1, .f32⟩ : BufTy).Contents (Elt F) :=
  picked c (column (F := F) a)

/-- 255 where the grey value is above its image's threshold and 0 elsewhere. -/
def binarised (g : (⟨S32x512x512, .f32⟩ : BufTy).Contents (Elt F)) (t : (⟨S32x1, .f32⟩ : BufTy).Contents (Elt F)) : (⟨S32x512x512, .f32⟩ : BufTy).Contents (Elt F) :=
  select (cmpf .ogt g (broadcastInDim S32x512x512 ![0, 1, 2] bcast_S32x1x1_S32x512x512_0_1_2 (shapeCast _ t shapeCasts_S32x1_S32x1x1)))
    (broadcastInDim S32x512x512 ![] bcast_S_S32x512x512 (constant S_ .f32 0x437F0000#32))
    (broadcastInDim S32x512x512 ![] bcast_S_S32x512x512 (constant S_ .f32 0x00000000#32))

/-- One value a pixel, given to all three channels. -/
def threefold (y : (⟨S32x512x512, .f32⟩ : BufTy).Contents (Elt F)) : (⟨S32x512x512x3, .f32⟩ : BufTy).Contents (Elt F) :=
  shapeCast _ (broadcastInDim S32x512x512x1x3 ![0, 1, 2, 3] bcast_S32x512x512x1_S32x512x512x1x3_0_1_2_3
    (broadcastInDim S32x512x512x1 ![0, 1, 2] bcast_S32x512x512_S32x512x512x1_0_1_2 y)) shapeCasts_S32x512x512x1x3_S32x512x512x3

/-- The bin centres of the rows `r`. -/
def centres (r : (⟨S32x262144, .f32⟩ : BufTy).Contents (Elt F)) : (⟨S32x256, .f32⟩ : BufTy).Contents (Elt F) :=
  centre (rowMin r) (scale r)

/-- The variance of each split of the rows `r`. -/
def variances (r : (⟨S32x262144, .f32⟩ : BufTy).Contents (Elt F)) : (⟨S32x255, .f32⟩ : BufTy).Contents (Elt F) :=
  variance (runSum (hist (bins r))) (runSum (mulf (hist (bins r)) (centres r)))

/-- Each row's threshold. -/
def threshold (r : (⟨S32x262144, .f32⟩ : BufTy).Contents (Elt F)) : (⟨S32x1, .f32⟩ : BufTy).Contents (Elt F) :=
  lookup (centres r) (bestSplit (variances r))

/-- The result array, of the argument. -/
def result (x : (⟨S32x512x512x3, .f32⟩ : BufTy).Contents (Elt F)) : (⟨S32x512x512x3, .f32⟩ : BufTy).Contents (Elt F) :=
  threefold (binarised (grey x) (threshold (rows (grey x))))

/-! ## The operations -/

/-- The operations of the grey image, its range and the bin of each pixel. -/
abbrev seg0 : List (HloOp τ sig (Elt F)) :=
  [ nullary main_cst (fun i => FloatOps.ofBits .f32 (lit0 (S3.rowMajor i))),
    binary main_arg0 main_cst main_v0 ((fun l r => Host.dotGeneral dot_S32x512x512x3_S3_S32x512x512_3_0_012_n_n_n none l r) : (⟨S32x512x512x3, .f32⟩ : BufTy).Contents (Elt F) → (⟨S3, .f32⟩ : BufTy).Contents (Elt F) → (⟨S32x512x512, .f32⟩ : BufTy).Contents (Elt F)),
    reshape main_v0 main_v1 (rfl : (.f32 : EltTy) = .f32) shapeCasts_S32x512x512_S32x262144,
    nullary main_cst_0 (constant S_ .f32 0x7F800000#32),
    binary main_v1 main_cst_0 main_v2 ((fun x v => Host.reduce FloatOps.minimumf x v reducesTo_S32x262144_S32_d1 h_S_) : (⟨S32x262144, .f32⟩ : BufTy).Contents (Elt F) → (⟨S_, .f32⟩ : BufTy).Contents (Elt F) → (⟨S32, .f32⟩ : BufTy).Contents (Elt F)),
    unary main_v2 main_v3 (broadcastInDim S32x1 ![0] bcast_S32_S32x1_0 : (⟨S32, .f32⟩ : BufTy).Contents (Elt F) → (⟨S32x1, .f32⟩ : BufTy).Contents (Elt F)),
    nullary main_cst_1 (constant S_ .f32 0xFF800000#32),
    binary main_v1 main_cst_1 main_v4 ((fun x v => Host.reduce FloatOps.maximumf x v reducesTo_S32x262144_S32_d1 h_S_) : (⟨S32x262144, .f32⟩ : BufTy).Contents (Elt F) → (⟨S_, .f32⟩ : BufTy).Contents (Elt F) → (⟨S32, .f32⟩ : BufTy).Contents (Elt F)),
    unary main_v4 main_v5 (broadcastInDim S32x1 ![0] bcast_S32_S32x1_0 : (⟨S32, .f32⟩ : BufTy).Contents (Elt F) → (⟨S32x1, .f32⟩ : BufTy).Contents (Elt F)),
    binary main_v5 main_v3 main_v6 (subf : (⟨S32x1, .f32⟩ : BufTy).Contents (Elt F) → (⟨S32x1, .f32⟩ : BufTy).Contents (Elt F) → (⟨S32x1, .f32⟩ : BufTy).Contents (Elt F)),
    nullary main_cst_2 (constant S_ .f32 0x2B8CBCCC#32),
    unary main_cst_2 main_v7 (broadcastInDim S32x1 ![] bcast_S_S32x1 : (⟨S_, .f32⟩ : BufTy).Contents (Elt F) → (⟨S32x1, .f32⟩ : BufTy).Contents (Elt F)),
    binary main_v6 main_v7 main_v8 (maximumf : (⟨S32x1, .f32⟩ : BufTy).Contents (Elt F) → (⟨S32x1, .f32⟩ : BufTy).Contents (Elt F) → (⟨S32x1, .f32⟩ : BufTy).Contents (Elt F)),
    nullary main_cst_3 (constant S_ .f32 0x43800000#32),
    unary main_cst_3 main_v9 (broadcastInDim S32x1 ![] bcast_S_S32x1 : (⟨S_, .f32⟩ : BufTy).Contents (Elt F) → (⟨S32x1, .f32⟩ : BufTy).Contents (Elt F)),
    binary main_v9 main_v8 main_v10 (Host.divf : (⟨S32x1, .f32⟩ : BufTy).Contents (Elt F) → (⟨S32x1, .f32⟩ : BufTy).Contents (Elt F) → (⟨S32x1, .f32⟩ : BufTy).Contents (Elt F)),
    unary main_v3 main_v11 (broadcastInDim S32x262144 ![0, 1] bcast_S32x1_S32x262144_0_1 : (⟨S32x1, .f32⟩ : BufTy).Contents (Elt F) → (⟨S32x262144, .f32⟩ : BufTy).Contents (Elt F)),
    binary main_v1 main_v11 main_v12 (subf : (⟨S32x262144, .f32⟩ : BufTy).Contents (Elt F) → (⟨S32x262144, .f32⟩ : BufTy).Contents (Elt F) → (⟨S32x262144, .f32⟩ : BufTy).Contents (Elt F)),
    unary main_v10 main_v13 (broadcastInDim S32x262144 ![0, 1] bcast_S32x1_S32x262144_0_1 : (⟨S32x1, .f32⟩ : BufTy).Contents (Elt F) → (⟨S32x262144, .f32⟩ : BufTy).Contents (Elt F)),
    binary main_v12 main_v13 main_v14 (mulf : (⟨S32x262144, .f32⟩ : BufTy).Contents (Elt F) → (⟨S32x262144, .f32⟩ : BufTy).Contents (Elt F) → (⟨S32x262144, .f32⟩ : BufTy).Contents (Elt F)),
    unary main_v14 main_v15 (fptosi 32 : (⟨S32x262144, .f32⟩ : BufTy).Contents (Elt F) → (⟨S32x262144, .i32⟩ : BufTy).Contents (Elt F)),
    nullary main_c (constantI S_ 32 0#32),
    nullary main_c_4 (constantI S_ 32 255#32),
    TRef.unary (TRef.of (T := ⟨S_, .i32⟩) main_c) (TRef.of (T := ⟨S_, .i32⟩) main_call0_v0) id,
    TRef.unary (TRef.of (T := ⟨S_, .i32⟩) main_call0_v0) (TRef.of (T := ⟨S32x262144, .i32⟩) main_call0_v1) (broadcastInDim S32x262144 ![] bcast_S_S32x262144),
    TRef.binary (TRef.of (T := ⟨S32x262144, .i32⟩) main_call0_v1) (TRef.of (T := ⟨S32x262144, .i32⟩) main_v15) (TRef.of (T := ⟨S32x262144, .i32⟩) main_call0_v2) maxsi,
    TRef.unary (TRef.of (T := ⟨S_, .i32⟩) main_c_4) (TRef.of (T := ⟨S_, .i32⟩) main_call0_v3) id,
    TRef.unary (TRef.of (T := ⟨S_, .i32⟩) main_call0_v3) (TRef.of (T := ⟨S32x262144, .i32⟩) main_call0_v4) (broadcastInDim S32x262144 ![] bcast_S_S32x262144),
    TRef.binary (TRef.of (T := ⟨S32x262144, .i32⟩) main_call0_v4) (TRef.of (T := ⟨S32x262144, .i32⟩) main_call0_v2) (TRef.of (T := ⟨S32x262144, .i32⟩) main_v16) minsi ]

/-- The buffers that `seg0` writes, in order. -/
abbrev seg0_W : List (Ref sig .tc) :=
  [main_cst, main_v0, main_v1, main_cst_0, main_v2, main_v3, main_cst_1, main_v4, main_v5, main_v6, main_cst_2, main_v7, main_v8, main_cst_3, main_v9, main_v10, main_v11, main_v12, main_v13, main_v14, main_v15, main_c, main_c_4, main_call0_v0, main_call0_v1, main_call0_v2, main_call0_v3, main_call0_v4, main_v16]

/-- The operations of the histogram. -/
abbrev seg1 : List (HloOp τ sig (Elt F)) :=
  [ nullary main_v17 (iotaInDim S32 32 0),
    unary main_v17 main_v18 (broadcastInDim S32x1 ![0] bcast_S32_S32x1_0 : (⟨S32, .i32⟩ : BufTy).Contents (Elt F) → (⟨S32x1, .i32⟩ : BufTy).Contents (Elt F)),
    unary main_v18 main_v19 (broadcastInDim S32x262144 ![0, 1] bcast_S32x1_S32x262144_0_1 : (⟨S32x1, .i32⟩ : BufTy).Contents (Elt F) → (⟨S32x262144, .i32⟩ : BufTy).Contents (Elt F)),
    nullary main_cst_5 (constant S_ .f32 0x00000000#32),
    unary main_cst_5 main_v20 (broadcastInDim S32x256 ![] bcast_S_S32x256 : (⟨S_, .f32⟩ : BufTy).Contents (Elt F) → (⟨S32x256, .f32⟩ : BufTy).Contents (Elt F)),
    reshape main_v19 main_v21 (rfl : (.i32 : EltTy) = .i32) shapeCasts_S32x262144_S8388608,
    reshape main_v16 main_v22 (rfl : (.i32 : EltTy) = .i32) shapeCasts_S32x262144_S8388608,
    nullary main_c_6 (constantI S_ 32 0#32),
    unary main_c_6 main_v23 (broadcastInDim S8388608 ![] bcast_S_S8388608 : (⟨S_, .i32⟩ : BufTy).Contents (Elt F) → (⟨S8388608, .i32⟩ : BufTy).Contents (Elt F)),
    binary main_v21 main_v23 main_v24 (cmpi .slt : (⟨S8388608, .i32⟩ : BufTy).Contents (Elt F) → (⟨S8388608, .i32⟩ : BufTy).Contents (Elt F) → (⟨S8388608, .i1⟩ : BufTy).Contents (Elt F)),
    nullary main_c_7 (constantI S_ 32 32#32),
    unary main_c_7 main_v25 (broadcastInDim S8388608 ![] bcast_S_S8388608 : (⟨S_, .i32⟩ : BufTy).Contents (Elt F) → (⟨S8388608, .i32⟩ : BufTy).Contents (Elt F)),
    binary main_v21 main_v25 main_v26 (addi : (⟨S8388608, .i32⟩ : BufTy).Contents (Elt F) → (⟨S8388608, .i32⟩ : BufTy).Contents (Elt F) → (⟨S8388608, .i32⟩ : BufTy).Contents (Elt F)),
    ternary main_v24 main_v26 main_v21 main_v27 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    nullary main_c_8 (constantI S_ 32 0#32),
    unary main_c_8 main_v28 (broadcastInDim S8388608 ![] bcast_S_S8388608 : (⟨S_, .i32⟩ : BufTy).Contents (Elt F) → (⟨S8388608, .i32⟩ : BufTy).Contents (Elt F)),
    binary main_v22 main_v28 main_v29 (cmpi .slt : (⟨S8388608, .i32⟩ : BufTy).Contents (Elt F) → (⟨S8388608, .i32⟩ : BufTy).Contents (Elt F) → (⟨S8388608, .i1⟩ : BufTy).Contents (Elt F)),
    nullary main_c_9 (constantI S_ 32 256#32),
    unary main_c_9 main_v30 (broadcastInDim S8388608 ![] bcast_S_S8388608 : (⟨S_, .i32⟩ : BufTy).Contents (Elt F) → (⟨S8388608, .i32⟩ : BufTy).Contents (Elt F)),
    binary main_v22 main_v30 main_v31 (addi : (⟨S8388608, .i32⟩ : BufTy).Contents (Elt F) → (⟨S8388608, .i32⟩ : BufTy).Contents (Elt F) → (⟨S8388608, .i32⟩ : BufTy).Contents (Elt F)),
    ternary main_v29 main_v31 main_v22 main_v32 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v27 main_v33 (broadcastInDim S8388608x1 ![0] bcast_S8388608_S8388608x1_0 : (⟨S8388608, .i32⟩ : BufTy).Contents (Elt F) → (⟨S8388608x1, .i32⟩ : BufTy).Contents (Elt F)),
    unary main_v32 main_v34 (broadcastInDim S8388608x1 ![0] bcast_S8388608_S8388608x1_0 : (⟨S8388608, .i32⟩ : BufTy).Contents (Elt F) → (⟨S8388608x1, .i32⟩ : BufTy).Contents (Elt F)),
    binary main_v33 main_v34 main_v35 (paired (F := F)),
    nullary main_cst_10 (constant S_ .f32 0x3F800000#32),
    unary main_cst_10 main_v36 (broadcastInDim S8388608 ![] bcast_S_S8388608 : (⟨S_, .f32⟩ : BufTy).Contents (Elt F) → (⟨S8388608, .f32⟩ : BufTy).Contents (Elt F)),
    ternary main_v20 main_v35 main_v36 main_v37 ((fun x i u => Host.scatterAdd scatter_S32x256_S8388608x2_S8388608_n_01_01_1 x i u) : (⟨S32x256, .f32⟩ : BufTy).Contents (Elt F) → (⟨S8388608x2, .i32⟩ : BufTy).Contents (Elt F) → (⟨S8388608, .f32⟩ : BufTy).Contents (Elt F) → (⟨S32x256, .f32⟩ : BufTy).Contents (Elt F)) ]

/-- The buffers that `seg1` writes, in order. -/
abbrev seg1_W : List (Ref sig .tc) :=
  [main_v17, main_v18, main_v19, main_cst_5, main_v20, main_v21, main_v22, main_c_6, main_v23, main_v24, main_c_7, main_v25, main_v26, main_v27, main_c_8, main_v28, main_v29, main_c_9, main_v30, main_v31, main_v32, main_v33, main_v34, main_v35, main_cst_10, main_v36, main_v37]

/-- The operations of the bin centres, up to the last addition. -/
abbrev seg2 : List (HloOp τ sig (Elt F)) :=
  [ nullary main_v38 (sitofp .f32 (iotaInDim S256 32 0)),
    unary main_v38 main_v39 (broadcastInDim S1x256 ![1] bcast_S256_S1x256_1 : (⟨S256, .f32⟩ : BufTy).Contents (Elt F) → (⟨S1x256, .f32⟩ : BufTy).Contents (Elt F)),
    nullary main_cst_11 (constant S_ .f32 0x3F000000#32),
    unary main_cst_11 main_v40 (broadcastInDim S1x256 ![] bcast_S_S1x256 : (⟨S_, .f32⟩ : BufTy).Contents (Elt F) → (⟨S1x256, .f32⟩ : BufTy).Contents (Elt F)),
    binary main_v39 main_v40 main_v41 (addf : (⟨S1x256, .f32⟩ : BufTy).Contents (Elt F) → (⟨S1x256, .f32⟩ : BufTy).Contents (Elt F) → (⟨S1x256, .f32⟩ : BufTy).Contents (Elt F)),
    unary main_v41 main_v42 (broadcastInDim S32x256 ![0, 1] bcast_S1x256_S32x256_0_1 : (⟨S1x256, .f32⟩ : BufTy).Contents (Elt F) → (⟨S32x256, .f32⟩ : BufTy).Contents (Elt F)),
    unary main_v10 main_v43 (broadcastInDim S32x256 ![0, 1] bcast_S32x1_S32x256_0_1 : (⟨S32x1, .f32⟩ : BufTy).Contents (Elt F) → (⟨S32x256, .f32⟩ : BufTy).Contents (Elt F)),
    binary main_v42 main_v43 main_v44 (Host.divf : (⟨S32x256, .f32⟩ : BufTy).Contents (Elt F) → (⟨S32x256, .f32⟩ : BufTy).Contents (Elt F) → (⟨S32x256, .f32⟩ : BufTy).Contents (Elt F)),
    unary main_v3 main_v45 (broadcastInDim S32x256 ![0, 1] bcast_S32x1_S32x256_0_1 : (⟨S32x1, .f32⟩ : BufTy).Contents (Elt F) → (⟨S32x256, .f32⟩ : BufTy).Contents (Elt F)) ]

/-- The buffers that `seg2` writes, in order. -/
abbrev seg2_W : List (Ref sig .tc) :=
  [main_v38, main_v39, main_cst_11, main_v40, main_v41, main_v42, main_v43, main_v44, main_v45]

/-- The operations of the between-class variance of each split. -/
abbrev seg3 : List (HloOp τ sig (Elt F)) :=
  [ binary main_v45 main_v44 main_v46 (addf : (⟨S32x256, .f32⟩ : BufTy).Contents (Elt F) → (⟨S32x256, .f32⟩ : BufTy).Contents (Elt F) → (⟨S32x256, .f32⟩ : BufTy).Contents (Elt F)),
    binary main_v37 main_v46 main_v47 (mulf : (⟨S32x256, .f32⟩ : BufTy).Contents (Elt F) → (⟨S32x256, .f32⟩ : BufTy).Contents (Elt F) → (⟨S32x256, .f32⟩ : BufTy).Contents (Elt F)),
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S32x256, .f32⟩) main_v37) (TRef.of (T := ⟨S_, .f32⟩) main_call1_call0_v0) (TRef.of (T := ⟨S32x256, .f32⟩) main_v48) (fun x v => Host.reduceWindowAdd ![1, 256] ![1, 1] ![0, 255] ![0, 0] x v reduceWindows_S32x256_S32x256_w1s1p0_0_w256s1p255_0 h_S_),
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S32x256, .f32⟩) main_v47) (TRef.of (T := ⟨S_, .f32⟩) main_call2_call0_v0) (TRef.of (T := ⟨S32x256, .f32⟩) main_v49) (fun x v => Host.reduceWindowAdd ![1, 256] ![1, 1] ![0, 255] ![0, 0] x v reduceWindows_S32x256_S32x256_w1s1p0_0_w256s1p255_0 h_S_),
    unary main_v48 main_v50 ((extractStridedSlice S32x1 ![0, 255] · slices_S32x256_S32x1_0_255) : (⟨S32x256, .f32⟩ : BufTy).Contents (Elt F) → (⟨S32x1, .f32⟩ : BufTy).Contents (Elt F)),
    unary main_v49 main_v51 ((extractStridedSlice S32x1 ![0, 255] · slices_S32x256_S32x1_0_255) : (⟨S32x256, .f32⟩ : BufTy).Contents (Elt F) → (⟨S32x1, .f32⟩ : BufTy).Contents (Elt F)),
    unary main_v48 main_v52 ((extractStridedSlice S32x255 ![0, 0] · slices_S32x256_S32x255_0_0) : (⟨S32x256, .f32⟩ : BufTy).Contents (Elt F) → (⟨S32x255, .f32⟩ : BufTy).Contents (Elt F)),
    unary main_v49 main_v53 ((extractStridedSlice S32x255 ![0, 0] · slices_S32x256_S32x255_0_0) : (⟨S32x256, .f32⟩ : BufTy).Contents (Elt F) → (⟨S32x255, .f32⟩ : BufTy).Contents (Elt F)),
    unary main_v50 main_v54 (broadcastInDim S32x255 ![0, 1] bcast_S32x1_S32x255_0_1 : (⟨S32x1, .f32⟩ : BufTy).Contents (Elt F) → (⟨S32x255, .f32⟩ : BufTy).Contents (Elt F)),
    binary main_v54 main_v52 main_v55 (subf : (⟨S32x255, .f32⟩ : BufTy).Contents (Elt F) → (⟨S32x255, .f32⟩ : BufTy).Contents (Elt F) → (⟨S32x255, .f32⟩ : BufTy).Contents (Elt F)),
    nullary main_cst_12 (constant S_ .f32 0x2B8CBCCC#32),
    unary main_cst_12 main_v56 (broadcastInDim S32x255 ![] bcast_S_S32x255 : (⟨S_, .f32⟩ : BufTy).Contents (Elt F) → (⟨S32x255, .f32⟩ : BufTy).Contents (Elt F)),
    binary main_v52 main_v56 main_v57 (maximumf : (⟨S32x255, .f32⟩ : BufTy).Contents (Elt F) → (⟨S32x255, .f32⟩ : BufTy).Contents (Elt F) → (⟨S32x255, .f32⟩ : BufTy).Contents (Elt F)),
    binary main_v53 main_v57 main_v58 (Host.divf : (⟨S32x255, .f32⟩ : BufTy).Contents (Elt F) → (⟨S32x255, .f32⟩ : BufTy).Contents (Elt F) → (⟨S32x255, .f32⟩ : BufTy).Contents (Elt F)),
    unary main_v51 main_v59 (broadcastInDim S32x255 ![0, 1] bcast_S32x1_S32x255_0_1 : (⟨S32x1, .f32⟩ : BufTy).Contents (Elt F) → (⟨S32x255, .f32⟩ : BufTy).Contents (Elt F)),
    binary main_v59 main_v53 main_v60 (subf : (⟨S32x255, .f32⟩ : BufTy).Contents (Elt F) → (⟨S32x255, .f32⟩ : BufTy).Contents (Elt F) → (⟨S32x255, .f32⟩ : BufTy).Contents (Elt F)),
    nullary main_cst_13 (constant S_ .f32 0x2B8CBCCC#32),
    unary main_cst_13 main_v61 (broadcastInDim S32x255 ![] bcast_S_S32x255 : (⟨S_, .f32⟩ : BufTy).Contents (Elt F) → (⟨S32x255, .f32⟩ : BufTy).Contents (Elt F)),
    binary main_v55 main_v61 main_v62 (maximumf : (⟨S32x255, .f32⟩ : BufTy).Contents (Elt F) → (⟨S32x255, .f32⟩ : BufTy).Contents (Elt F) → (⟨S32x255, .f32⟩ : BufTy).Contents (Elt F)),
    binary main_v60 main_v62 main_v63 (Host.divf : (⟨S32x255, .f32⟩ : BufTy).Contents (Elt F) → (⟨S32x255, .f32⟩ : BufTy).Contents (Elt F) → (⟨S32x255, .f32⟩ : BufTy).Contents (Elt F)),
    binary main_v52 main_v55 main_v64 (mulf : (⟨S32x255, .f32⟩ : BufTy).Contents (Elt F) → (⟨S32x255, .f32⟩ : BufTy).Contents (Elt F) → (⟨S32x255, .f32⟩ : BufTy).Contents (Elt F)),
    binary main_v58 main_v63 main_v65 (subf : (⟨S32x255, .f32⟩ : BufTy).Contents (Elt F) → (⟨S32x255, .f32⟩ : BufTy).Contents (Elt F) → (⟨S32x255, .f32⟩ : BufTy).Contents (Elt F)),
    binary main_v65 main_v65 main_v66 (mulf : (⟨S32x255, .f32⟩ : BufTy).Contents (Elt F) → (⟨S32x255, .f32⟩ : BufTy).Contents (Elt F) → (⟨S32x255, .f32⟩ : BufTy).Contents (Elt F)),
    binary main_v64 main_v66 main_v67 (mulf : (⟨S32x255, .f32⟩ : BufTy).Contents (Elt F) → (⟨S32x255, .f32⟩ : BufTy).Contents (Elt F) → (⟨S32x255, .f32⟩ : BufTy).Contents (Elt F)) ]

/-- The buffers that `seg3` writes, in order. -/
abbrev seg3_W : List (Ref sig .tc) :=
  [main_v46, main_v47, main_call1_call0_cst, main_call1_call0_v0, main_v48, main_call2_call0_cst, main_call2_call0_v0, main_v49, main_v50, main_v51, main_v52, main_v53, main_v54, main_v55, main_cst_12, main_v56, main_v57, main_v58, main_v59, main_v60, main_cst_13, main_v61, main_v62, main_v63, main_v64, main_v65, main_v66, main_v67]

/-- The operations of the split of largest variance and its bin centre. -/
abbrev seg4 : List (HloOp τ sig (Elt F)) :=
  [ TRef.nullary (TRef.of (T := ⟨S32x255, .i32⟩) main_call3_v0) (iotaInDim S32x255 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S32x255, .f32⟩) main_v67) (TRef.of (T := ⟨S32x255, .i32⟩) main_call3_v0) (TRef.of (T := ⟨S_, .f32⟩) main_call3_cst) (TRef.of (T := ⟨S_, .i32⟩) main_call3_c) (TRef.of (T := ⟨S32, .f32⟩) main_call3_v1_0) (fun x y u v j => (Host.argReduce reducer_argmax_f32_i32 x y u v reducesTo_S32x255_S32_d1 h_S_ j).1),
    TRef.quaternary (TRef.of (T := ⟨S32x255, .f32⟩) main_v67) (TRef.of (T := ⟨S32x255, .i32⟩) main_call3_v0) (TRef.of (T := ⟨S_, .f32⟩) main_call3_cst) (TRef.of (T := ⟨S_, .i32⟩) main_call3_c) (TRef.of (T := ⟨S32, .i32⟩) main_v68) (fun x y u v j => (Host.argReduce reducer_argmax_f32_i32 x y u v reducesTo_S32x255_S32_d1 h_S_ j).2),
    unary main_v68 main_v69 (broadcastInDim S32x1 ![0] bcast_S32_S32x1_0 : (⟨S32, .i32⟩ : BufTy).Contents (Elt F) → (⟨S32x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S32x1, .i32⟩) main_call4_v0) (broadcastInDim S32x1 ![] bcast_S_S32x1),
    TRef.binary (TRef.of (T := ⟨S32x1, .i32⟩) main_v69) (TRef.of (T := ⟨S32x1, .i32⟩) main_call4_v0) (TRef.of (T := ⟨S32x1, .i1⟩) main_call4_v1) (cmpi .slt),
    TRef.nullary (TRef.of (T := ⟨S_, .i32⟩) main_call4_c_0) (constantI S_ 32 256#32),
    TRef.unary (TRef.of (T := ⟨S_, .i32⟩) main_call4_c_0) (TRef.of (T := ⟨S32x1, .i32⟩) main_call4_v2) (broadcastInDim S32x1 ![] bcast_S_S32x1),
    TRef.binary (TRef.of (T := ⟨S32x1, .i32⟩) main_v69) (TRef.of (T := ⟨S32x1, .i32⟩) main_call4_v2) (TRef.of (T := ⟨S32x1, .i32⟩) main_call4_v3) addi,
    TRef.ternary (TRef.of (T := ⟨S32x1, .i1⟩) main_call4_v1) (TRef.of (T := ⟨S32x1, .i32⟩) main_call4_v3) (TRef.of (T := ⟨S32x1, .i32⟩) main_v69) (TRef.of (T := ⟨S32x1, .i32⟩) main_call4_v4) select,
    TRef.reshape (TRef.of (T := ⟨S32x1, .i32⟩) main_call4_v4) (TRef.of (T := ⟨S32x1x1, .i32⟩) main_call4_v5) (rfl : (.i32 : EltTy) = .i32) shapeCasts_S32x1_S32x1x1,
    TRef.nullary (TRef.of (T := ⟨S1, .i32⟩) main_call4_c_1) (constantI S1 32 255#32),
    TRef.nullary (TRef.of (T := ⟨S_, .i32⟩) main_call4_c_2) (constantI S_ 32 0#32),
    TRef.unary (TRef.of (T := ⟨S_, .i32⟩) main_call4_c_2) (TRef.of (T := ⟨S32x1x1, .i32⟩) main_call4_v6) (broadcastInDim S32x1x1 ![] bcast_S_S32x1x1),
    TRef.binary (TRef.of (T := ⟨S32x1x1, .i32⟩) main_call4_v5) (TRef.of (T := ⟨S32x1x1, .i32⟩) main_call4_v6) (TRef.of (T := ⟨S32x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S32x1x1, .i32⟩) main_call4_v9) (broadcastInDim S32x1x1 ![0, 1, 2] bcast_S1x1x1_S32x1x1_0_1_2),
    TRef.binary (TRef.of (T := ⟨S32x1x1, .i32⟩) main_call4_v5) (TRef.of (T := ⟨S32x1x1, .i32⟩) main_call4_v9) (TRef.of (T := ⟨S32x1x1, .i1⟩) main_call4_v10) (cmpi .sle),
    TRef.binary (TRef.of (T := ⟨S32x1x1, .i1⟩) main_call4_v7) (TRef.of (T := ⟨S32x1x1, .i1⟩) main_call4_v10) (TRef.of (T := ⟨S32x1x1, .i1⟩) main_call4_v11) andi,
    TRef.nullary (TRef.of (T := ⟨S_, .i1⟩) main_call4_c_3) (constantI S_ 1 1#1),
    TRef.binary (TRef.of (T := ⟨S32x1x1, .i1⟩) main_call4_v11) (TRef.of (T := ⟨S_, .i1⟩) main_call4_c_3) (TRef.of (T := ⟨S32x1, .i1⟩) main_call4_v12) (fun x v => Host.reduce IntOp.andi x v reducesTo_S32x1x1_S32x1_d2 h_S_),
    TRef.binary (TRef.of (T := ⟨S32x256, .f32⟩) main_v46) (TRef.of (T := ⟨S32x1x1, .i32⟩) main_call4_v5) (TRef.of (T := ⟨S32x1, .f32⟩) main_call4_v13) (fun x i => Host.gather gather_S32x256_S32x1x1_S32x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S32x1, .f32⟩) main_call4_v14) (broadcastInDim S32x1 ![] bcast_S_S32x1),
    TRef.ternary (TRef.of (T := ⟨S32x1, .i1⟩) main_call4_v12) (TRef.of (T := ⟨S32x1, .f32⟩) main_call4_v13) (TRef.of (T := ⟨S32x1, .f32⟩) main_call4_v14) (TRef.of (T := ⟨S32x1, .f32⟩) main_v70) select ]

/-- The buffers that `seg4` writes, in order. -/
abbrev seg4_W : List (Ref sig .tc) :=
  [main_call3_v0, main_call3_cst, main_call3_c, main_call3_v1_0, main_v68, main_v69, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v70]

/-- The operations of the thresholded image. -/
abbrev seg5 : List (HloOp τ sig (Elt F)) :=
  [ reshape main_v70 main_v71 (rfl : (.f32 : EltTy) = .f32) shapeCasts_S32x1_S32x1x1,
    unary main_v71 main_v72 (broadcastInDim S32x512x512 ![0, 1, 2] bcast_S32x1x1_S32x512x512_0_1_2 : (⟨S32x1x1, .f32⟩ : BufTy).Contents (Elt F) → (⟨S32x512x512, .f32⟩ : BufTy).Contents (Elt F)),
    binary main_v0 main_v72 main_v73 (cmpf .ogt : (⟨S32x512x512, .f32⟩ : BufTy).Contents (Elt F) → (⟨S32x512x512, .f32⟩ : BufTy).Contents (Elt F) → (⟨S32x512x512, .i1⟩ : BufTy).Contents (Elt F)),
    nullary main_cst_14 (constant S_ .f32 0x437F0000#32),
    nullary main_cst_15 (constant S_ .f32 0x00000000#32),
    TRef.unary (TRef.of (T := ⟨S_, .f32⟩) main_cst_14) (TRef.of (T := ⟨S32x512x512, .f32⟩) main_call5_v0) (broadcastInDim S32x512x512 ![] bcast_S_S32x512x512),
    TRef.unary (TRef.of (T := ⟨S_, .f32⟩) main_cst_15) (TRef.of (T := ⟨S32x512x512, .f32⟩) main_call5_v1) (broadcastInDim S32x512x512 ![] bcast_S_S32x512x512),
    TRef.ternary (TRef.of (T := ⟨S32x512x512, .i1⟩) main_v73) (TRef.of (T := ⟨S32x512x512, .f32⟩) main_call5_v0) (TRef.of (T := ⟨S32x512x512, .f32⟩) main_call5_v1) (TRef.of (T := ⟨S32x512x512, .f32⟩) main_v74) select,
    unary main_v74 main_v75 (broadcastInDim S32x512x512x1 ![0, 1, 2] bcast_S32x512x512_S32x512x512x1_0_1_2 : (⟨S32x512x512, .f32⟩ : BufTy).Contents (Elt F) → (⟨S32x512x512x1, .f32⟩ : BufTy).Contents (Elt F)),
    unary main_v75 main_v76 (broadcastInDim S32x512x512x1x3 ![0, 1, 2, 3] bcast_S32x512x512x1_S32x512x512x1x3_0_1_2_3 : (⟨S32x512x512x1, .f32⟩ : BufTy).Contents (Elt F) → (⟨S32x512x512x1x3, .f32⟩ : BufTy).Contents (Elt F)),
    reshape main_v76 main_v77 (rfl : (.f32 : EltTy) = .f32) shapeCasts_S32x512x512x1x3_S32x512x512x3 ]

/-- The buffers that `seg5` writes, in order. -/
abbrev seg5_W : List (Ref sig .tc) :=
  [main_v71, main_v72, main_v73, main_cst_14, main_cst_15, main_call5_v0, main_call5_v1, main_v74, main_v75, main_v76, main_v77]

/-- @main's operations up to the last but one step of the centres. -/
def firstHalf : List (HloOp τ sig (Elt F)) := seg0 ++ (seg1 ++ seg2)

/-- @main's remaining operations. -/
def secondHalf : List (HloOp τ sig (Elt F)) := seg3 ++ (seg4 ++ seg5)

/-- @main's operations, in order. -/
abbrev ops : List (HloOp τ sig (Elt F)) := firstHalf ++ secondHalf

set_option maxRecDepth 8192 in
set_option maxHeartbeats 4000000 in
/-- The first printed half of @main runs `firstHalf`. -/
theorem main_part0_eq (c : Dev nD) : main_part0 (F := F) c = seq firstHalf := rfl

set_option maxRecDepth 8192 in
set_option maxHeartbeats 4000000 in
/-- The second printed half of @main runs `secondHalf`. -/
theorem main_part1_eq (c : Dev nD) : main_part1 (F := F) c = seq secondHalf := rfl

/-- @main is its operations in order. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a list holds only buffers of the core. -/
def Held (l : List (HloOp τ sig (Elt F))) : Prop := l.Forall fun op => op.bufs ⊆ tcRefs τ sig

/-- Every operation of a list determines its result. -/
def Fixed (l : List (HloOp τ sig (Elt F))) : Prop := l.Forall fun op => op.fresh = ∅

theorem Held.append {l k : List (HloOp τ sig (Elt F))} (h : Held l) (h' : Held k) : Held (l ++ k) :=
  List.forall_iff_forall_mem.2 fun op hop => (List.mem_append.1 hop).elim (List.forall_iff_forall_mem.1 h op) (List.forall_iff_forall_mem.1 h' op)

theorem Fixed.append {l k : List (HloOp τ sig (Elt F))} (h : Fixed l) (h' : Fixed k) : Fixed (l ++ k) :=
  List.forall_iff_forall_mem.2 fun op hop => (List.mem_append.1 hop).elim (List.forall_iff_forall_mem.1 h op) (List.forall_iff_forall_mem.1 h' op)

set_option maxRecDepth 8192 in
theorem held0 : Held (seg0 (F := F)) :=
  ⟨nullary_bufs_sub .., binary_bufs_sub .., reshape_bufs_sub .., nullary_bufs_sub .., binary_bufs_sub .., unary_bufs_sub ..,
   nullary_bufs_sub .., binary_bufs_sub .., unary_bufs_sub .., binary_bufs_sub .., nullary_bufs_sub .., unary_bufs_sub ..,
   binary_bufs_sub .., nullary_bufs_sub .., unary_bufs_sub .., binary_bufs_sub .., unary_bufs_sub .., binary_bufs_sub ..,
   unary_bufs_sub .., binary_bufs_sub .., unary_bufs_sub .., nullary_bufs_sub .., nullary_bufs_sub .., unary_bufs_sub ..,
   unary_bufs_sub .., binary_bufs_sub .., unary_bufs_sub .., unary_bufs_sub .., binary_bufs_sub ..⟩
set_option maxRecDepth 8192 in
theorem fixed0 : Fixed (seg0 (F := F)) :=
  StableHlo.forall_fresh_of_map rfl
set_option maxRecDepth 8192 in
theorem held1 : Held (seg1 (F := F)) :=
  ⟨nullary_bufs_sub .., unary_bufs_sub .., unary_bufs_sub .., nullary_bufs_sub .., unary_bufs_sub .., reshape_bufs_sub ..,
   reshape_bufs_sub .., nullary_bufs_sub .., unary_bufs_sub .., binary_bufs_sub .., nullary_bufs_sub .., unary_bufs_sub ..,
   binary_bufs_sub .., ternary_bufs_sub .., nullary_bufs_sub .., unary_bufs_sub .., binary_bufs_sub .., nullary_bufs_sub ..,
   unary_bufs_sub .., binary_bufs_sub .., ternary_bufs_sub .., unary_bufs_sub .., unary_bufs_sub .., binary_bufs_sub ..,
   nullary_bufs_sub .., unary_bufs_sub .., ternary_bufs_sub ..⟩
set_option maxRecDepth 8192 in
theorem fixed1 : Fixed (seg1 (F := F)) :=
  StableHlo.forall_fresh_of_map rfl
set_option maxRecDepth 8192 in
theorem held2 : Held (seg2 (F := F)) :=
  ⟨nullary_bufs_sub .., unary_bufs_sub .., nullary_bufs_sub .., unary_bufs_sub .., binary_bufs_sub .., unary_bufs_sub ..,
   unary_bufs_sub .., binary_bufs_sub .., unary_bufs_sub ..⟩
set_option maxRecDepth 8192 in
theorem fixed2 : Fixed (seg2 (F := F)) :=
  StableHlo.forall_fresh_of_map rfl
set_option maxRecDepth 8192 in
theorem held3 : Held (seg3 (F := F)) :=
  ⟨binary_bufs_sub .., binary_bufs_sub .., nullary_bufs_sub .., unary_bufs_sub .., binary_bufs_sub .., nullary_bufs_sub ..,
   unary_bufs_sub .., binary_bufs_sub .., unary_bufs_sub .., unary_bufs_sub .., unary_bufs_sub .., unary_bufs_sub ..,
   unary_bufs_sub .., binary_bufs_sub .., nullary_bufs_sub .., unary_bufs_sub .., binary_bufs_sub .., binary_bufs_sub ..,
   unary_bufs_sub .., binary_bufs_sub .., nullary_bufs_sub .., unary_bufs_sub .., binary_bufs_sub .., binary_bufs_sub ..,
   binary_bufs_sub .., binary_bufs_sub .., binary_bufs_sub .., binary_bufs_sub ..⟩
set_option maxRecDepth 8192 in
theorem fixed3 : Fixed (seg3 (F := F)) :=
  StableHlo.forall_fresh_of_map rfl
set_option maxRecDepth 8192 in
theorem held4 : Held (seg4 (F := F)) :=
  ⟨nullary_bufs_sub .., nullary_bufs_sub .., nullary_bufs_sub .., quaternary_bufs_sub .., quaternary_bufs_sub ..,
   unary_bufs_sub .., nullary_bufs_sub .., unary_bufs_sub .., binary_bufs_sub .., nullary_bufs_sub .., unary_bufs_sub ..,
   binary_bufs_sub .., ternary_bufs_sub .., reshape_bufs_sub .., nullary_bufs_sub .., nullary_bufs_sub .., unary_bufs_sub ..,
   binary_bufs_sub .., unary_bufs_sub .., unary_bufs_sub .., binary_bufs_sub .., binary_bufs_sub .., nullary_bufs_sub ..,
   binary_bufs_sub .., binary_bufs_sub .., nullary_bufs_sub .., unary_bufs_sub .., ternary_bufs_sub ..⟩
set_option maxRecDepth 8192 in
theorem fixed4 : Fixed (seg4 (F := F)) :=
  StableHlo.forall_fresh_of_map rfl
set_option maxRecDepth 8192 in
theorem held5 : Held (seg5 (F := F)) :=
  ⟨reshape_bufs_sub .., unary_bufs_sub .., binary_bufs_sub .., nullary_bufs_sub .., nullary_bufs_sub .., unary_bufs_sub ..,
   unary_bufs_sub .., ternary_bufs_sub .., unary_bufs_sub .., unary_bufs_sub .., reshape_bufs_sub ..⟩
set_option maxRecDepth 8192 in
theorem fixed5 : Fixed (seg5 (F := F)) :=
  StableHlo.forall_fresh_of_map rfl

theorem held : Held (ops (F := F)) :=
  (held0.append (held1.append held2)).append (held3.append (held4.append held5))

theorem fixed : Fixed (ops (F := F)) :=
  (fixed0.append (fixed1.append fixed2)).append (fixed3.append (fixed4.append fixed5))

/-! ## The contents after each segment -/

variable (V : Valuation τ sig (Elt F))

/-- The contents after the first segment, the first two, and so on. -/
def val1 : Valuation τ sig (Elt F) := after seg0 V
def val2 : Valuation τ sig (Elt F) := after seg1 (val1 V)
def val3 : Valuation τ sig (Elt F) := after seg2 (val2 V)
def val4 : Valuation τ sig (Elt F) := after seg3 (val3 V)
def val5 : Valuation τ sig (Elt F) := after seg4 (val4 V)
def val6 : Valuation τ sig (Elt F) := after seg5 (val5 V)

theorem after_ops : after ops V = val6 V := by
  simp only [ops, firstHalf, secondHalf, after_append]
  rfl

set_option maxRecDepth 8192 in
/-- A buffer that the first segment does not write keeps its contents through it; the same of each later segment. -/
theorem keep1 (r : Ref sig .tc) (h : r ∉ seg0_W) : val1 V (Proc.devRef .tc r) = V (Proc.devRef .tc r) :=
  after_of_writes_sub seg0 _ (forall_writes_sub_of_map rfl) h
set_option maxRecDepth 8192 in
theorem keep2 (r : Ref sig .tc) (h : r ∉ seg1_W) : val2 V (Proc.devRef .tc r) = val1 V (Proc.devRef .tc r) :=
  after_of_writes_sub seg1 _ (forall_writes_sub_of_map rfl) h
theorem keep3 (r : Ref sig .tc) (h : r ∉ seg2_W) : val3 V (Proc.devRef .tc r) = val2 V (Proc.devRef .tc r) :=
  after_of_writes_sub seg2 _ (forall_writes_sub_of_map rfl) h
set_option maxRecDepth 8192 in
theorem keep4 (r : Ref sig .tc) (h : r ∉ seg3_W) : val4 V (Proc.devRef .tc r) = val3 V (Proc.devRef .tc r) :=
  after_of_writes_sub seg3 _ (forall_writes_sub_of_map rfl) h
set_option maxRecDepth 8192 in
theorem keep5 (r : Ref sig .tc) (h : r ∉ seg4_W) : val5 V (Proc.devRef .tc r) = val4 V (Proc.devRef .tc r) :=
  after_of_writes_sub seg4 _ (forall_writes_sub_of_map rfl) h
theorem keep6 (r : Ref sig .tc) (h : r ∉ seg5_W) : val6 V (Proc.devRef .tc r) = val5 V (Proc.devRef .tc r) :=
  after_of_writes_sub seg5 _ (forall_writes_sub_of_map rfl) h

/-- The argument array keeps its contents through every segment. -/
theorem val6_main_arg0 : val6 V (Proc.devRef .tc main_arg0) = V (Proc.devRef .tc main_arg0) := by
  rw [keep6 V _ (by decide), keep5 V _ (by decide), keep4 V _ (by decide), keep3 V _ (by decide), keep2 V _ (by decide), keep1 V _ (by decide)]

set_option maxRecDepth 8192 in
set_option maxHeartbeats 2000000 in
/-- The first segment leaves the grey image, the least grey values, the scale and the bins. -/
theorem val1_main_v0 : val1 V (no_index (Proc.devRef .tc main_v0)) = grey (V (Proc.devRef .tc main_arg0)) := by
  unfold val1
  simp only [seg0, TRef.binary, TRef.unary, TRef.toBuf, TRef.ofBuf, cast_eq]
  after_results_simp
  all_goals rfl
set_option maxRecDepth 8192 in
set_option maxHeartbeats 2000000 in
theorem val1_main_v3 : val1 V (no_index (Proc.devRef .tc main_v3)) = rowMin (rows (grey (V (Proc.devRef .tc main_arg0)))) := by
  unfold val1
  simp only [seg0, TRef.binary, TRef.unary, TRef.toBuf, TRef.ofBuf, cast_eq]
  after_results_simp
  all_goals rfl
set_option maxRecDepth 8192 in
set_option maxHeartbeats 2000000 in
theorem val1_main_v10 : val1 V (no_index (Proc.devRef .tc main_v10)) = scale (rows (grey (V (Proc.devRef .tc main_arg0)))) := by
  unfold val1
  simp only [seg0, TRef.binary, TRef.unary, TRef.toBuf, TRef.ofBuf, cast_eq]
  after_results_simp
  all_goals rfl
set_option maxRecDepth 8192 in
set_option maxHeartbeats 2000000 in
theorem val1_main_v16 : val1 V (no_index (Proc.devRef .tc main_v16)) = bins (rows (grey (V (Proc.devRef .tc main_arg0)))) := by
  unfold val1
  simp only [seg0, TRef.binary, TRef.unary, TRef.toBuf, TRef.ofBuf, cast_eq]
  after_results_simp
  all_goals rfl

set_option maxRecDepth 8192 in
set_option maxHeartbeats 2000000 in
/-- The second segment leaves the histogram. -/
theorem val2_main_v37 : val2 V (no_index (Proc.devRef .tc main_v37)) = hist (bins (rows (grey (V (Proc.devRef .tc main_arg0))))) := by
  unfold val2
  simp only [seg1]
  after_results_simp
  simp only [val1_main_v16] <;> rfl

set_option maxHeartbeats 2000000 in
/-- The third segment leaves the two summands of the centres. -/
theorem val3_main_v44 : val3 V (no_index (Proc.devRef .tc main_v44)) = offset (scale (rows (grey (V (Proc.devRef .tc main_arg0))))) := by
  have h : val2 V (Proc.devRef .tc main_v10) = _ := (keep2 V main_v10 (by decide)).trans (val1_main_v10 V)
  unfold val3
  simp only [seg2]
  after_results_simp
  simp only [h] <;> rfl
set_option maxHeartbeats 2000000 in
theorem val3_main_v45 : val3 V (no_index (Proc.devRef .tc main_v45))
    = broadcastInDim S32x256 ![0, 1] bcast_S32x1_S32x256_0_1 (rowMin (rows (grey (V (Proc.devRef .tc main_arg0))))) := by
  have h : val2 V (Proc.devRef .tc main_v3) = _ := (keep2 V main_v3 (by decide)).trans (val1_main_v3 V)
  unfold val3
  simp only [seg2]
  after_results_simp
  simp only [h] <;> rfl

set_option maxRecDepth 8192 in
set_option maxHeartbeats 2000000 in
/-- The fourth segment leaves the centres and the variances. -/
theorem val4_main_v46 : val4 V (no_index (Proc.devRef .tc main_v46)) = centres (rows (grey (V (Proc.devRef .tc main_arg0)))) := by
  unfold val4
  simp only [seg3, TRef.binary, TRef.nullary, TRef.unary, TRef.toBuf, TRef.ofBuf, cast_eq]
  after_results_simp
  simp only [val3_main_v44, val3_main_v45] <;> rfl
set_option maxRecDepth 8192 in
set_option maxHeartbeats 2000000 in
theorem val4_main_v67 : val4 V (no_index (Proc.devRef .tc main_v67)) = variances (rows (grey (V (Proc.devRef .tc main_arg0)))) := by
  have h : val3 V (Proc.devRef .tc main_v37) = _ := (keep3 V main_v37 (by decide)).trans (val2_main_v37 V)
  unfold val4
  simp only [seg3, TRef.binary, TRef.nullary, TRef.unary, TRef.toBuf, TRef.ofBuf, cast_eq]
  after_results_simp
  simp only [h, val3_main_v44, val3_main_v45] <;> rfl

set_option maxRecDepth 8192 in
set_option maxHeartbeats 2000000 in
/-- The fifth segment leaves the thresholds. -/
theorem val5_main_v70 : val5 V (no_index (Proc.devRef .tc main_v70)) = threshold (rows (grey (V (Proc.devRef .tc main_arg0)))) := by
  unfold val5
  simp only [seg4, TRef.binary, TRef.nullary, TRef.unary, TRef.ternary, TRef.quaternary, TRef.reshape, TRef.toBuf, TRef.ofBuf, cast_eq]
  after_results_simp
  simp only [val4_main_v46, val4_main_v67] <;> rfl

set_option maxRecDepth 8192 in
set_option maxHeartbeats 2000000 in
/-- The last segment leaves the result. -/
theorem val6_main_v77 : val6 V (no_index (Proc.devRef .tc main_v77)) = result (V (Proc.devRef .tc main_arg0)) := by
  have h : val5 V (Proc.devRef .tc main_v0) = _ := (keep5 V main_v0 (by decide)).trans
    ((keep4 V main_v0 (by decide)).trans ((keep3 V main_v0 (by decide)).trans ((keep2 V main_v0 (by decide)).trans (val1_main_v0 V))))
  unfold val6
  simp only [seg5, TRef.binary, TRef.nullary, TRef.ternary, TRef.unary, TRef.toBuf, TRef.ofBuf, cast_eq]
  after_results_simp
  simp only [h, val5_main_v70] <;> rfl

/-! ## The run -/

/-- On every device, for any float values, from any memory with zero counters: every execution of @main terminates
    with the result array at `result` of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = result (m ((c.tc : Thread nD τ).loc main_arg0))
      ∧ r.2.mem ((c.tc : Thread nD τ).loc main_arg0) = m ((c.tc : Thread nD τ).loc main_arg0) :=
  (θ_run defs _ _).mono (fun _ h c =>
      ⟨(h c main_v77).trans ((congrFun (after_ops (launchContents m c)) _).trans (val6_main_v77 (launchContents m c))),
       (h c main_arg0).trans ((congrFun (after_ops (launchContents m c)) _).trans (val6_main_arg0 (launchContents m c)))⟩)
    (run_seq scopedRefs_eq scopedSems_eq defs main (fun _ => ops) main_eq
      (fun _ => held) m ρ fun _ => List.forall_iff_forall_mem.1 fixed)

end Cert.Proof.Ref

end
-- ==== Proof.KernelRun.lean ====
/- The kernel program's run, read back. The grid has one point per image; the point's blocks are that image's part of
   the input array and of the output array, so after the run the output array holds, image by image, what one run of
   the body makes of the image (`outAll`). The operations after it give each pixel's value to three channels. `run` says
   that every execution ends with the result array at the composition of these functions of the argument, the argument
   unchanged. -/
module

public import proofs.«01_k».proof.Proof.Gen.KernelIdeal.Frame
public import Idealize.ShloMosaic.Lib.Pipeline.Value
public import Idealize.ShloMosaic.Lib.ValueIdxCore

@[expose] public section

noncomputable section

namespace Cert.Proof.Ker

open Cert.KernelIdeal Cert.KernelIdeal.Gen Idealize.ShloMosaic Idealize.ShloMosaic.TcCoe Idealize.SL.Sem
open Idealize.ShloMosaic.ValueIdx

variable {F : FTy → Type} [FloatOps F]

/-- The grey image: each pixel's three channels against the three weights. -/
def grey (x : (⟨S32x512x512x3, .f32⟩ : BufTy).Contents (Elt F)) : (⟨S32x512x512, .f32⟩ : BufTy).Contents (Elt F) :=
  Host.dotGeneral dot_S32x512x512x3_S3_S32x512x512_3_0_012_n_n_n none x (fun i => FloatOps.ofBits .f32 (lit0 (S3.rowMajor i)))

/-- Each image's pixels in eight rows. -/
def stacked (g : (⟨S32x512x512, .f32⟩ : BufTy).Contents (Elt F)) : (⟨S32x8x32768, .f32⟩ : BufTy).Contents (Elt F) :=
  shapeCast _ g shapeCasts_S32x512x512_S32x8x32768

/-- Image `n` of the stack. -/
def image (y : Vec F S32x8x32768 .f32) (n : Fin 32) : Vec F S1x8x32768 .f32 := fun j => y (ix3 n (j 1) (j 2))

/-- What one run of the body makes of one image. -/
def out (x : Vec F S1x8x32768 .f32) : Vec F S1x8x32768 .f32 :=
  k0_pay1 (k0_pay2 x) k0_pay16 (k0_pay17 (k0_pay3 x) (k0_pay4 x))
    (extractAt ![0, 0, 0] (k0_pay19
      (k0_pay12 (k0_pay8 (k0_pay6 x) (k0_pay7 x) 1#32) (k0_pay9 (k0_pay5 x) (k0_pay6 x) (k0_pay7 x) 1#32)
        (iota .tc S8x16x8192 32 [1] iota_S8x16x8192_d1_w32)
        (k0_pay10 (F := F) (k0_pay5 x) (k0_pay6 x) (k0_pay7 x) 1#32) (k0_pay11 (F := F) (k0_pay5 x) (k0_pay6 x) (k0_pay7 x) 1#32))
      (k0_pay13 (F := F)) (k0_pay14 (F := F)) (k0_pay15 (F := F)) k0_pay16
      (k0_pay18 (k0_pay3 x) (k0_pay4 x) (k0_pay8 (k0_pay6 x) (k0_pay7 x) 1#32) (k0_pay9 (k0_pay5 x) (k0_pay6 x) (k0_pay7 x) 1#32)
        (iota .tc S8x16x8192 32 [1] iota_S8x16x8192_d1_w32)
        (k0_pay10 (F := F) (k0_pay5 x) (k0_pay6 x) (k0_pay7 x) 1#32) (k0_pay11 (F := F) (k0_pay5 x) (k0_pay6 x) (k0_pay7 x) 1#32))
      (constant S16x16 .f32 0x00000000#32)) inpos_S1x1x1_p0_0_0)

/-- The whole stack, image by image. -/
def outAll (y : Vec F S32x8x32768 .f32) : Vec F S32x8x32768 .f32 := fun i => out (image y (i 0)) (ix3 0 (i 1) (i 2))

/-- One value a pixel, given to all three channels. -/
def threefold (y : (⟨S32x512x512, .f32⟩ : BufTy).Contents (Elt F)) : (⟨S32x512x512x3, .f32⟩ : BufTy).Contents (Elt F) :=
  shapeCast _ (broadcastInDim S32x512x512x1x3 ![0, 1, 2, 3] bcast_S32x512x512x1_S32x512x512x1x3_0_1_2_3
    (broadcastInDim S32x512x512x1 ![0, 1, 2] bcast_S32x512x512_S32x512x512x1_0_1_2 y)) shapeCasts_S32x512x512x1x3_S32x512x512x3

/-- The result array, of the argument. -/
def result (x : (⟨S32x512x512x3, .f32⟩ : BufTy).Contents (Elt F)) : (⟨S32x512x512x3, .f32⟩ : BufTy).Contents (Elt F) :=
  threefold (shapeCast _ (outAll (stacked (grey x))) shapeCasts_S32x8x32768_S32x512x512)

/-! ## One point -/

theorem hz : (![0, 0, 0] : Fin 3 → Nat) = fun _ => 0 := funext fun a => by fin_cases a <;> rfl

/-- What a point leaves in its output block is `out` of its input block: one store of the whole block, whose value
    reads the whole input block. -/
theorem out0_1_eq (x : Vec F S1x8x32768 .f32) : out0_1 x = out x := by
  unfold_out out0_1
  rw [View.canon_unit_zero hz, View.ld_unit_zero hz]
  rfl

variable (m : (ℓ : Loc nD τ sig) → Buf (Elt F) ℓ) (ρ : Dev nD → PrngReg)

/-- Point `t`'s blocks lie at image `t`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The image a point works on. -/
def img (t : Fin cfg0.N) : Fin 32 := ⟨t.val, lt_of_lt_of_eq t.isLt (by decide : grid0.N = 32)⟩

theorem emb0 (t : Fin cfg0.N) (j : S1x8x32768.Idx) : ((cfg0.win 0).blk t).view.emb j = (ix3 (img t) (j 1) (j 2) : S32x8x32768.Idx) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 8 + 1 * (j 1).val = (j 1).val; omega
  | ⟨2, _⟩ => show win0_0.index t (2 : Fin 3) * 32768 + 1 * (j 2).val = (j 2).val; omega

theorem emb1 (t : Fin cfg0.N) (j : S1x8x32768.Idx) : ((cfg0.win 1).blk t).view.emb j = (ix3 (img t) (j 1) (j 2) : S32x8x32768.Idx) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 8 + 1 * (j 1).val = (j 1).val; omega
  | ⟨2, _⟩ => show win0_1.index t (2 : Fin 3) * 32768 + 1 * (j 2).val = (j 2).val; omega

/-- The input block of a point is its image of the input array. -/
theorem iblk_eq (c : Dev nD) (t : Fin cfg0.N) : iblk m c 0 t = image (V m c main_v1) (img t) := by
  funext j
  show V m c main_v1 (((cfg0.win 0).blk t).view.emb j) = _
  rw [emb0]
  rfl

/-- What a point writes back is its part of `outAll` of the input array. -/
theorem flushed_eq (c : Dev nD) (t : Fin cfg0.N) :
    (dats m 0 c).flushed 1 t = ((cfg0.win 1).blk t).view.read (Elt F) (outAll (V m c main_v1)) := by
  show (cfg0.win 1).cut (grid0.coords t) ((dats m 0 c).after 1 t) = _
  rw [after0_1, out0_1_eq, iblk_eq]
  funext j
  show out (image (V m c main_v1) (img t)) j = outAll (V m c main_v1) (((cfg0.win 1).blk t).view.emb j)
  rw [emb1]
  show _ = out (image (V m c main_v1) (img t)) (ix3 0 (j 1) (j 2))
  refine congrArg _ (funext fun a => ?_)
  match a with
  | ⟨0, _⟩ => exact Subsingleton.elim (α := Fin 1) _ _
  | ⟨1, _⟩ => rfl
  | ⟨2, _⟩ => rfl

/-- Every index of the output array lies in the block of its image's point. -/
theorem covered (i : S32x8x32768.Idx) : ∃ t : Fin cfg0.N, (cfg0.win 1).flush t = true ∧ i ∈ ((cfg0.win 1).blk t).view.set := by
  refine ⟨⟨(i 0).val, lt_of_lt_of_eq (i 0).isLt (by decide : 32 = grid0.N)⟩, flush0_1 _, ?_⟩
  have h := ((cfg0.win 1).blk (⟨(i 0).val, lt_of_lt_of_eq (i 0).isLt (by decide : 32 = grid0.N)⟩ : Fin cfg0.N)).view.emb_mem_set
    (ix3 0 (i 1) (i 2) : S1x8x32768.Idx)
  rw [emb1] at h
  have e : (ix3 (img ⟨(i 0).val, lt_of_lt_of_eq (i 0).isLt (by decide : 32 = grid0.N)⟩) ((ix3 0 (i 1) (i 2) : S1x8x32768.Idx) 1) ((ix3 0 (i 1) (i 2) : S1x8x32768.Idx) 2) : S32x8x32768.Idx) = i := by
    funext a
    match a with
    | ⟨0, _⟩ => rfl
    | ⟨1, _⟩ => rfl
    | ⟨2, _⟩ => rfl
  exact e ▸ h

/-- The output array after the run. -/
theorem final (c : Dev nD) : (dats m 0 c).arrAt 1 cfg0.N = outAll (V m c main_v1) :=
  (dats m 0 c).arrAt_eq_of_cover 1 _ (fun t _ => flushed_eq m c t) covered

/-- The input array as the region finds it: the stacked grey image. -/
theorem V_main_v1 (c : Dev nD) : V m c main_v1 = stacked (grey (m ((c : Thread nD τ).loc main_arg0))) := by
  show StableHlo.after hostOps0 _ (Proc.devRef .tc main_v1) = _
  simp only [hostOps0]
  after_results_simp
  all_goals rfl

/-- The result array after the operations behind the region. -/
theorem tail_main_v6 (c : Dev nD) :
    Pipeline.afterTail₀ cfgs (dats m) 0 (V0 m) [hostOps1] c main_v6 = result (m ((c : Thread nD τ).loc main_arg0)) := by
  have h : Pipeline.withArrays (cfgs 0).spec c (V0 m c) (fun w => (dats m 0 c).arrAt w (cfgs 0).N) (Proc.devRef .tc main_v2)
      = outAll (stacked (grey (m ((c : Thread nD τ).loc main_arg0)))) :=
    (Pipeline.withArrays_arr spec0 (by decide) c (V0 m c) (fun w => (dats m 0 c).arrAt w cfg0.N) 1).trans
      ((final m c).trans (congrArg outAll (V_main_v1 m c)))
  unfold Pipeline.afterTail₀
  show StableHlo.after hostOps1 _ (Proc.devRef .tc main_v6) = _
  simp only [hostOps1]
  after_results_simp
  rw [h]
  rfl

/-- Every execution of @main terminates with the result array at `result` of the argument, and the argument unchanged. -/
theorem run : θ_run defs (onTc (τ := τ) (main (F := F))) ⟨m, fun _ => 0, ρ⟩ fun r => ∀ c : Dev nD,
      r.2.mem ((c.tc : Thread nD τ).loc main_v6) = result (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v6 (Pipeline.mem_restRefs_of main_v6 (by decide) (by decide))).trans (tail_main_v6 m c),
       ((h c).2 main_arg0 (Pipeline.mem_restRefs_of main_arg0 (by decide) (by decide))).trans (W_main_arg0 m (dats m) c)⟩)
    (run_main m ρ)

end Cert.Proof.Ker

end
-- ==== Proof.Otsu.lean ====
/- Otsu's threshold of one image, in words of its pixels alone: the range of the grey values, each pixel's bin, the
   histogram, the bin centres, and the variance between the two classes of a split. `IsBest v k` says that `k` is the
   first split at which `v` is greatest; there is at most one such split (`IsBest.unique`). The kernel and the reference
   are each shown to threshold an image at the centre of the best split of `variance`. -/
module

public import Idealize.ShloMosaic.Lib.IdealHost

@[expose] public section

noncomputable section

open scoped BigOperators

namespace Cert.Proof.Otsu

open Idealize.ShloMosaic

/-- An image as its pixels' grey values, row after row. -/
abbrev Image := Fin 262144 → EReal

/-- The least grey value. -/
def least (x : Image) : EReal := ⨅ p, x p

/-- The greatest grey value. -/
def most (x : Image) : EReal := ⨆ p, x p

/-- Bins per unit of grey value: 256 over the range, the range kept off zero. -/
def scale (x : Image) : EReal :=
  Ideal.div (Ideal.ofBits .f32 0x43800000#32) (max (most x - least x) (Ideal.ofBits .f32 0x2B8CBCCC#32))

/-- A grey value's bin, clipped to 0 … 255. -/
def bin (x : Image) (v : EReal) : BitVec 32 :=
  IntOp.minsi 255#32 (IntOp.maxsi 0#32 (Ideal.fptosi 32 ((v - least x) * scale x)))

/-- How many pixels lie in bin `k`. -/
def count (x : Image) (k : Fin 256) : EReal := ∑ p, if (bin x (x p)).toNat = k.val then 1 else 0

/-- The centre of bin `k`. -/
def centre (x : Image) (k : Fin 256) : EReal :=
  least x + Ideal.div (((k.val : ℝ) : EReal) + Ideal.ofBits .f32 0x3F000000#32) (scale x)

/-- The running sum of `h` up to and including bin `k`. -/
def run (h : Fin 256 → EReal) (k : Fin 256) : EReal := ∑ j, if j ≤ k then h j else 0

/-- The variance between two classes of weights `a` and `b` and weighted sums `s` and `t`. -/
def between (a b s t : EReal) : EReal :=
  a * b * ((Ideal.div s (max a (Ideal.ofBits .f32 0x2B8CBCCC#32)) - Ideal.div t (max b (Ideal.ofBits .f32 0x2B8CBCCC#32)))
    * (Ideal.div s (max a (Ideal.ofBits .f32 0x2B8CBCCC#32)) - Ideal.div t (max b (Ideal.ofBits .f32 0x2B8CBCCC#32))))

/-- The variance of the split after bin `k`, for weights `w` and weighted centres `c`. -/
def split (w c : Fin 256 → EReal) (k : Fin 256) : EReal :=
  between (run w k) ((∑ j, w j) - run w k) (run c k) ((∑ j, c j) - run c k)

/-- The variance of each split of the image. -/
def variance (x : Image) : Fin 256 → EReal := split (count x) (fun k => count x k * centre x k)

/-- `k` is the first split, short of the last bin, at which `v` is greatest. -/
structure IsBest (v : Fin 256 → EReal) (k : Fin 256) : Prop where
  lt : k.val < 255
  le : ∀ j : Fin 256, j.val < 255 → v j ≤ v k
  first : ∀ j : Fin 256, j < k → v j < v k

/-- There is at most one best split. -/
theorem IsBest.unique {v : Fin 256 → EReal} {a b : Fin 256} (ha : IsBest v a) (hb : IsBest v b) : a = b := by
  rcases lt_trichotomy a b with h | h | h
  · exact absurd (ha.le b hb.lt) (not_le.2 (hb.first a h))
  · exact h
  · exact absurd (hb.le a ha.lt) (not_le.2 (ha.first b h))

/-- There is a best split. -/
theorem exists_best (v : Fin 256 → EReal) : ∃ k, IsBest v k := by
  obtain ⟨m, hm, hv⟩ := Finset.exists_max_image (Finset.univ.filter fun j : Fin 256 => j.val < 255) v ⟨0, by simp⟩
  obtain ⟨k, hk, hw⟩ := Finset.exists_min_image (Finset.univ.filter fun j : Fin 256 => j.val < 255 ∧ v j = v m) id ⟨m, by simpa using hm⟩
  simp only [Finset.mem_filter, Finset.mem_univ, true_and, id] at hm hv hk hw
  refine ⟨k, hk.1, fun j hj => hk.2 ▸ hv j hj, fun j hj => ?_⟩
  have hj' : j.val < 255 := lt_trans (Fin.lt_def.1 hj) hk.1
  exact lt_of_le_of_ne (hk.2 ▸ hv j hj') fun e => absurd (hw j ⟨hj', e.trans hk.2⟩) (not_le.2 hj)

/-- The running sum at the last bin is the whole sum. -/
theorem run_last (h : Fin 256 → EReal) : run h 255 = ∑ j, h j :=
  Finset.sum_congr rfl fun j _ => if_pos (Fin.le_last j)

/-- A bin's word is a number below 256. -/
theorem bin_toNat_lt (x : Image) (v : EReal) : (bin x v).toNat < 256 := by
  unfold bin
  generalize Ideal.fptosi 32 ((v - least x) * scale x) = w
  have h : ∀ u : BitVec 32, (IntOp.minsi 255#32 (IntOp.maxsi 0#32 u)).toNat < 256 := by
    intro u
    simp only [IntOp.minsi, IntOp.maxsi]
    split <;> split <;> simp_all [BitVec.slt, BitVec.toInt] <;> omega
  exact h w

/-- A sum of counts of indices of any kind is a real number that is not negative. -/
theorem sum_indicator {ι : Type} (s : Finset ι) (P : ι → Prop) [DecidablePred P] :
    ∃ r : ℝ, 0 ≤ r ∧ (∑ i ∈ s, if P i then (1 : EReal) else 0) = (r : EReal) := by
  classical
  induction s using Finset.induction_on with
  | empty => exact ⟨0, le_rfl, by simp⟩
  | insert a s ha ih =>
    obtain ⟨r, hr, e⟩ := ih
    rw [Finset.sum_insert ha, e]
    by_cases h : P a
    · exact ⟨1 + r, by positivity, by rw [if_pos h, EReal.coe_add, EReal.coe_one]⟩
    · exact ⟨r, hr, by rw [if_neg h, zero_add]⟩

/-- A count is a real number that is not negative. -/
theorem count_real (x : Image) (k : Fin 256) : ∃ r : ℝ, 0 ≤ r ∧ count x k = (r : EReal) := sum_indicator _ _

/-- A sum of real numbers that are not negative is one. -/
theorem sum_real {ι : Type} (s : Finset ι) (f : ι → EReal) (hf : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := ih
    obtain ⟨q, hq, eq⟩ := hf a
    exact ⟨q + r, by positivity, by rw [Finset.sum_insert ha, e, eq, EReal.coe_add]⟩

/-- A square is not negative. -/
theorem square_nonneg (d : EReal) : 0 ≤ d * d := by
  rcases le_total 0 d with h | h
  · exact EReal.mul_nonneg h h
  · exact EReal.mul_nonneg_iff.2 (.inr ⟨h, h⟩)

/-- No split of an image has a negative variance. -/
theorem variance_nonneg (x : Image) (k : Fin 256) : 0 ≤ variance x k := by
  obtain ⟨a, ha, ea⟩ := sum_real Finset.univ (fun j => if j ≤ k then count x j else 0) (fun j => by
    split
    · exact count_real x j
    · exact ⟨0, le_rfl, rfl⟩)
  obtain ⟨b, hb, eb⟩ := sum_real Finset.univ (fun j => if j ≤ k then 0 else count x j) (fun j => by
    split
    · exact ⟨0, le_rfl, rfl⟩
    · exact count_real x j)
  have e : ∑ j, count x j = (b : EReal) + (a : EReal) := by
    rw [← ea, ← eb, ← Finset.sum_add_distrib]
    exact Finset.sum_congr rfl fun j _ => by split <;> simp
  have ew : run (count x) k = (a : EReal) := ea
  unfold variance split between
  rw [e, ew, EReal.add_sub_cancel_right]
  exact EReal.mul_nonneg (EReal.mul_nonneg (EReal.coe_nonneg.2 ha) (EReal.coe_nonneg.2 hb)) (square_nonneg _)

end Cert.Proof.Otsu

end
-- ==== Proof.BlockBins.lean ====
/- One run of the kernel's body at exact values, its first part: the image's range, its scale and the bin of each pixel
   are those of `Otsu`, of the pixels taken row after row; the two words that the body splits a bin into are its
   quotient and its remainder by sixteen. -/
module

public import proofs.«01_k».proof.Proof.KernelRun
public import proofs.«01_k».proof.Proof.Otsu

@[expose] public section

noncomputable section

open scoped BigOperators

namespace Cert.Proof.Ker

open Cert.KernelIdeal Cert.KernelIdeal.Gen Idealize.ShloMosaic
open Idealize.ShloMosaic.ValueIdx

/-- Where pixel `p` of an image lies in the image's block. -/
def at3 (p : Fin 262144) : S1x8x32768.Idx :=
  ix3 0 ⟨p.val / 32768, by have := p.isLt; omega⟩ ⟨p.val % 32768, Nat.mod_lt _ (by decide)⟩

/-- A block's pixels in one row. -/
def pixels (x : Vec Ideal S1x8x32768 .f32) : Otsu.Image := fun p => x (at3 p)

/-- Every index of a block is a pixel's. -/
theorem at3_surjective : Function.Surjective at3 := fun i => by
  have h1 : (i 1).val < 8 := (i 1).isLt
  have h2 : (i 2).val < 32768 := (i 2).isLt
  refine ⟨⟨(i 1).val * 32768 + (i 2).val, by omega⟩, funext fun a => ?_⟩
  match a with
  | ⟨0, _⟩ => exact Subsingleton.elim (α := Fin 1) _ _
  | ⟨1, _⟩ => exact Fin.ext (by show ((i 1).val * 32768 + (i 2).val) / 32768 = (i 1).val; omega)
  | ⟨2, _⟩ => exact Fin.ext (by show ((i 1).val * 32768 + (i 2).val) % 32768 = (i 2).val; omega)

theorem posInf : Ideal.ofBits .f32 0x7F800000#32 = ⊤ := by simp [Ideal.ofBits, Ideal.ieee]
theorem negInf : Ideal.ofBits .f32 0xFF800000#32 = ⊥ := by simp [Ideal.ofBits, Ideal.ieee]

/-- The one entry of a whole reduction, however it is read. -/
theorem extract_one {α : Type} (v : S1.Idx → α) : extractAt ![0, 0, 0] (shapeCast S1x1x1 v shapeCasts_S1_S1x1x1) inpos_S1x1x1_p0_0_0 = v (ix1 0) := by
  refine shapeCast_apply v _ _ (ix1 0) ?_
  rw [Shape.rowMajor_val_three, show (S1.rowMajor (ix1 0)).val = ((ix1 0 : S1.Idx) 0).val from Shape.rowMajor_val_one _]
  rfl

theorem drop_one {s : Shape} {axes : List (Fin s.rank)} (h : s.Reduces axes S1) (j : S1.Idx) :
    (Finset.univ.filter fun i => h.drop i = j) = (Finset.univ : Finset s.Idx) :=
  Finset.filter_true_of_mem fun i _ => funext fun a => match a with | ⟨0, _⟩ => Subsingleton.elim (α := Fin 1) _ _

/-- The least of all entries of an array, as the body computes it. -/
theorem min_all {s : Shape} {axes : List (Fin s.rank)} (h : s.Reduces axes S1) (v : FVec Ideal s .f32) (hφ : FKind.Formats .f32)
    (hacc : 0x7F800000#32 = FKind.minimumf.neutral .f32 hφ) : multiReduction .minimumf axes S1 v 0x7F800000#32 h hφ hacc (ix1 0) = ⨅ i, v i := by
  rw [multiReduction_minimumf_eq_fold, drop_one]
  show Finset.fold min (Ideal.ofBits .f32 0x7F800000#32) v Finset.univ = _
  rw [posInf, ← Finset.inf_univ_eq_iInf]
  rfl

/-- The greatest of all entries of an array, as the body computes it. -/
theorem max_all {s : Shape} {axes : List (Fin s.rank)} (h : s.Reduces axes S1) (v : FVec Ideal s .f32) (hφ : FKind.Formats .f32)
    (hacc : 0xFF800000#32 = FKind.maximumf.neutral .f32 hφ) : multiReduction .maximumf axes S1 v 0xFF800000#32 h hφ hacc (ix1 0) = ⨆ i, v i := by
  rw [multiReduction_maximumf_eq_fold, drop_one]
  show Finset.fold max (Ideal.ofBits .f32 0xFF800000#32) v Finset.univ = _
  rw [negInf, ← Finset.sup_univ_eq_iSup]
  rfl

variable (x : Vec Ideal S1x8x32768 .f32)

/-- The block as a matrix. -/
theorem pay2_apply (r : Fin 8) (q : Fin 32768) : k0_pay2 x (ix2 r q) = x (ix3 0 r q) := by
  refine shapeCast_apply x _ _ _ ?_
  rw [Shape.rowMajor_val_three, Shape.rowMajor_val_two]
  show (0 * 8 + r.val) * 32768 + q.val = r.val * 32768 + q.val
  omega

theorem pay2_back : shapeCast S1x8x32768 (k0_pay2 x) shapeCasts_S8x32768_S1x8x32768 = x := shapeCast_shapeCast _ _ _

theorem pay3_eq : k0_pay3 x = Otsu.least (pixels x) := by
  unfold k0_pay3
  simp only [pay2_back]
  exact (extract_one _).trans ((min_all _ x _ _).trans (at3_surjective.iInf_comp x).symm)

theorem pay4_eq : k0_pay4 x = Otsu.scale (pixels x) := by
  unfold Otsu.scale
  have e : (⨆ i, x i) = Otsu.most (pixels x) := (at3_surjective.iSup_comp x).symm
  unfold k0_pay4
  simp only [pay2_back]
  rw [extract_one]
  refine (congrArg (fun t => Scalar.divf (F := Ideal) (φ := .f32) (FloatOps.ofBits .f32 0x43800000#32)
    (Scalar.maximumf (Scalar.subf t (k0_pay3 x)) (FloatOps.ofBits .f32 0x2B8CBCCC#32))) (max_all reduces_S1x8x32768_S1 x (.inl rfl) rfl)).trans ?_
  rw [pay3_eq, e]
  generalize Otsu.most (pixels x) = u, Otsu.least (pixels x) = l
  rfl

/-- The body's bin of each pixel. -/
theorem pay5_apply (r : Fin 8) (q : Fin 32768) : k0_pay5 x (ix2 r q) = Otsu.bin (pixels x) (x (ix3 0 r q)) := by
  unfold k0_pay5 Otsu.bin
  rw [pay3_eq, pay4_eq, ← pay2_apply x r q]
  rfl

/-! ## The two words of a bin -/

/-- A word's quotient by sixteen, as the body computes it. -/
def high (u : BitVec 32) : BitVec 32 :=
  Scalar.select (IntOp.andi (IntOp.cmpi .ne (IntOp.subi ((IntOp.cmpi .sgt u 0#32).setWidth 32) ((IntOp.cmpi .slt u 0#32).setWidth 32))
      (IntOp.subi ((IntOp.cmpi .sgt 16#32 0#32).setWidth 32) ((IntOp.cmpi .slt 16#32 0#32).setWidth 32)))
      (IntOp.cmpi .ne (IntOp.remsi .vector u 16#32) 0#32))
    (IntOp.subi (IntOp.divsi .vector u 16#32) 1#32) (IntOp.divsi .vector u 16#32)

/-- A word's remainder by sixteen, as the body computes it. -/
def low (u : BitVec 32) : BitVec 32 := IntOp.subi u (IntOp.muli (high u) 16#32)

theorem pay8_apply (i : S8x32768.Idx) : k0_pay8 (k0_pay6 x) (k0_pay7 x) 1#32 i = high (k0_pay5 x i) := rfl
theorem pay9_apply (i : S8x32768.Idx) : k0_pay9 (k0_pay5 x) (k0_pay6 x) (k0_pay7 x) 1#32 i = low (k0_pay5 x i) := rfl

theorem high_low : ∀ n : Fin 256, high (BitVec.ofNat 32 n.val) = BitVec.ofNat 32 (n.val / 16) ∧ low (BitVec.ofNat 32 n.val) = BitVec.ofNat 32 (n.val % 16) := by
  decide +kernel

/-- For a bin, the two words are `a` and `b` exactly when the bin is `16 a + b`. -/
theorem high_low_eq_iff (u : BitVec 32) (hu : u.toNat < 256) (a b : Fin 16) :
    (high u = BitVec.ofNat 32 a.val ∧ low u = BitVec.ofNat 32 b.val) ↔ u.toNat = 16 * a.val + b.val := by
  have ha := a.isLt
  have hb := b.isLt
  have e : u = BitVec.ofNat 32 u.toNat := by simp
  obtain ⟨h, l⟩ := high_low ⟨u.toNat, hu⟩
  have inj : ∀ c d : Nat, c < 16 → d < 16 → (BitVec.ofNat 32 c = BitVec.ofNat 32 d ↔ c = d) := fun c d hc hd =>
    ⟨fun q => by
      have := congrArg BitVec.toNat q
      rw [BitVec.toNat_ofNat, BitVec.toNat_ofNat, Nat.mod_eq_of_lt (by omega), Nat.mod_eq_of_lt (by omega)] at this
      exact this, fun q => q ▸ rfl⟩
  rw [e, h, l, inj _ _ (by dsimp only; omega) ha, inj _ _ (by dsimp only; omega) hb, ← e]
  dsimp only
  omega

end Cert.Proof.Ker

end
-- ==== Proof.BlockCount.lean ====
/- One run of the kernel's body at exact values, its second part: the sixteen by sixteen array that the body sums out of
   products of indicator matrices is the histogram of `Otsu`: entry `a`, `b` counts the pixels in bin `16 a + b`. -/
module

public import proofs.«01_k».proof.Proof.BlockBins
public import Idealize.ShloMosaic.Lib.MatmulPlain

@[expose] public section

noncomputable section

open scoped BigOperators

namespace Cert.Proof.Ker

open Cert.KernelIdeal Cert.KernelIdeal.Gen Idealize.ShloMosaic
open Idealize.ShloMosaic.ValueIdx

/-- Row `16 r + a` of 128, for a row `r` of the block and a value `a` below sixteen. -/
def lane (r : Fin 8) (a : Fin 16) : Fin 128 := ⟨16 * r.val + a.val, by have := r.isLt; have := a.isLt; omega⟩

/-- The indicator matrix of a stretch of 8192 columns from column `o`: row `16 r + a` marks where row `r` of `v` is `a`. -/
def marks (o : Nat) (h : S8x32768.Slices ![0, o] S8x8192) (v : IVec S8x32768 32) : FVec Ideal S128x8192 .f32 :=
  shapeCast S128x8192 (sitofp .f32 (extui 32 (cmpi .eq
    (broadcastTo S8x16x8192 (shapeCast S8x1x8192 (extractStridedSlice S8x8192 ![0, o] v h) shapeCasts_S8x8192_S8x1x8192) broadcasts_S8x1x8192_S8x16x8192)
    (iota .tc S8x16x8192 32 [1] iota_S8x16x8192_d1_w32)) natLt_1_32)) shapeCasts_S8x16x8192_S128x8192

/-- A truth value as a number. -/
theorem indicator (u v : BitVec 32) :
    ((((IntOp.cmpi .eq u v).setWidth 32).toInt : ℝ) : EReal) = if u = v then 1 else 0 := by
  by_cases h : u = v
  · subst h; simp [IntOp.cmpi]
  · rw [if_neg h]; simp [IntOp.cmpi, beq_eq_false_iff_ne.2 h]

theorem marks_apply (o : Nat) (h : S8x32768.Slices ![0, o] S8x8192) (ho : o + 8192 ≤ 32768) (v : IVec S8x32768 32) (r : Fin 8) (a : Fin 16) (q : Fin 8192) :
    marks o h v (ix2 (lane r a) q) = if v (ix2 r ⟨o + q.val, by have := q.isLt; omega⟩) = BitVec.ofNat 32 a.val then 1 else 0 := by
  unfold marks
  rw [shapeCast_apply _ _ _ (ix3 r a q) (by
    rw [Shape.rowMajor_val_three, Shape.rowMajor_val_two]
    show (r.val * 16 + a.val) * 8192 + q.val = (16 * r.val + a.val) * 8192 + q.val
    omega)]
  have e : broadcastTo S8x16x8192 (shapeCast S8x1x8192 (extractStridedSlice S8x8192 ![0, o] v h) shapeCasts_S8x8192_S8x1x8192) broadcasts_S8x1x8192_S8x16x8192 (ix3 r a q)
      = v (ix2 r ⟨o + q.val, by have := q.isLt; omega⟩) := by
    rw [broadcastTo_apply _ _ _ (ix3 r 0 q) (fun c => match c with
      | ⟨0, _⟩ => rfl
      | ⟨1, _⟩ => rfl
      | ⟨2, _⟩ => rfl)]
    rw [shapeCast_apply _ _ _ (ix2 r q) (by
      rw [Shape.rowMajor_val_three, Shape.rowMajor_val_two]
      show r.val * 8192 + q.val = (r.val * 1 + 0) * 8192 + q.val
      omega)]
    exact extractStridedSlice_apply _ _ _ _ _ (fun c => match c with
      | ⟨0, _⟩ => (Nat.zero_add _).symm
      | ⟨1, _⟩ => rfl)
  have i : iota .tc S8x16x8192 32 [1] iota_S8x16x8192_d1_w32 (ix3 r a q) = BitVec.ofNat 32 a.val := iota_single_apply _ _ _ _ _ _
  rw [← indicator, ← e, ← i]
  rfl

/-- The product of two stretches' indicator matrices. -/
def piece (o : Nat) (h : S8x32768.Slices ![0, o] S8x8192) (u v : IVec S8x32768 32) : FVec Ideal S128x128 .f32 :=
  matmul dot_S128x8192_S128x8192_S128x128_1_1_0_0_n_n none (marks o h u) (marks o h v) (constant S128x128 .f32 0x00000000#32)

/-- It counts, at row `16 r + a` and column `16 r + b`, where `u` is `a` and `v` is `b` in row `r`. -/
theorem piece_apply (o : Nat) (h : S8x32768.Slices ![0, o] S8x8192) (ho : o + 8192 ≤ 32768) (u v : IVec S8x32768 32) (r : Fin 8) (a b : Fin 16) :
    piece o h u v (ix2 (lane r a) (lane r b)) = ∑ q : Fin 8192,
      if u (ix2 r ⟨o + q.val, by have := q.isLt; omega⟩) = BitVec.ofNat 32 a.val ∧ v (ix2 r ⟨o + q.val, by have := q.isLt; omega⟩) = BitVec.ofNat 32 b.val
        then (1 : EReal) else 0 := by
  refine (Ideal.matmul_transposedRhs_apply (M := 128) (K := 8192) (N := 128) none (marks o h u) (marks o h v) _ (lane r a) (lane r b)).trans ?_
  show Ideal.ofBits .f32 0x00000000#32 + _ = _
  rw [Ideal.ofBits_zero_f32, zero_add]
  refine Finset.sum_congr rfl fun q _ => ?_
  rw [marks_apply o h ho, marks_apply o h ho]
  split <;> split <;> simp_all

/-- The sum of the four stretches' products. -/
def stretches (u v : IVec S8x32768 32) : FVec Ideal S128x128 .f32 :=
  addf (addf (addf (addf (broadcast S128x128 (Scalar.ofBits .f32 0x00000000#32)) (piece 0 slices_S8x32768_o0_0_S8x8192 u v))
    (piece 8192 slices_S8x32768_o0_8192_S8x8192 u v)) (piece 16384 slices_S8x32768_o0_16384_S8x8192 u v))
    (piece 24576 slices_S8x32768_o0_24576_S8x8192 u v)

/-- The constant that a sum starts from is zero. -/
theorem zero_apply {s : Shape} (i : s.Idx) : broadcast s (Scalar.ofBits (F := Ideal) .f32 0x00000000#32) i = 0 := Ideal.ofBits_zero_f32

/-- At row `16 r + a` and column `16 r + b` it counts where `u` is `a` and `v` is `b` in the whole of row `r`. -/
theorem stretches_apply (u v : IVec S8x32768 32) (r : Fin 8) (a b : Fin 16) :
    stretches u v (ix2 (lane r a) (lane r b)) = ∑ q : Fin 32768,
      if u (ix2 r q) = BitVec.ofNat 32 a.val ∧ v (ix2 r q) = BitVec.ofNat 32 b.val then (1 : EReal) else 0 := by
  unfold stretches
  rw [addf_apply, addf_apply, addf_apply, addf_apply, zero_apply, zero_add, piece_apply _ _ (by decide), piece_apply _ _ (by decide), piece_apply _ _ (by decide), piece_apply _ _ (by decide),
    ← (finProdFinEquiv (m := 4) (n := 8192)).sum_comp, Fintype.sum_prod_type, Fin.sum_univ_four]
  have c : ∀ (s : Fin 4) (q : Fin 8192), (finProdFinEquiv (s, q) : Fin (4 * 8192)) = ⟨s.val * 8192 + q.val, by have := s.isLt; have := q.isLt; omega⟩ := fun s q =>
    Fin.ext (by show q.val + 8192 * s.val = s.val * 8192 + q.val; omega)
  simp only [c]
  rfl

/-- The eight diagonal blocks of `z`, added up. -/
def diagonal (z : FVec Ideal S128x128 .f32) : FVec Ideal S16x16 .f32 :=
  addf (addf (addf (addf (addf (addf (addf (addf (broadcast S16x16 (Scalar.ofBits .f32 0x00000000#32))
    (extractStridedSlice S16x16 ![0, 0] z slices_S128x128_o0_0_S16x16)) (extractStridedSlice S16x16 ![16, 16] z slices_S128x128_o16_16_S16x16))
    (extractStridedSlice S16x16 ![32, 32] z slices_S128x128_o32_32_S16x16)) (extractStridedSlice S16x16 ![48, 48] z slices_S128x128_o48_48_S16x16))
    (extractStridedSlice S16x16 ![64, 64] z slices_S128x128_o64_64_S16x16)) (extractStridedSlice S16x16 ![80, 80] z slices_S128x128_o80_80_S16x16))
    (extractStridedSlice S16x16 ![96, 96] z slices_S128x128_o96_96_S16x16)) (extractStridedSlice S16x16 ![112, 112] z slices_S128x128_o112_112_S16x16)

theorem diagonal_apply (z : FVec Ideal S128x128 .f32) (a b : Fin 16) : diagonal z (ix2 a b) = ∑ r : Fin 8, z (ix2 (lane r a) (lane r b)) := by
  have cut : ∀ (r : Fin 8) (o : Nat) (ho : o = 16 * r.val) (h : S128x128.Slices ![o, o] S16x16),
      extractStridedSlice S16x16 ![o, o] z h (ix2 a b) = z (ix2 (lane r a) (lane r b)) := fun r o ho h =>
    extractStridedSlice_apply _ _ _ _ _ (fun c => match c with
      | ⟨0, _⟩ => by subst ho; rfl
      | ⟨1, _⟩ => by subst ho; rfl)
  unfold diagonal
  simp only [addf_apply]
  rw [zero_apply, zero_add, Fin.sum_univ_eight, cut 0 0 rfl, cut 1 16 rfl, cut 2 32 rfl, cut 3 48 rfl, cut 4 64 rfl, cut 5 80 rfl, cut 6 96 rfl, cut 7 112 rfl]

/-- The histogram that the body builds, from the two words of each bin. -/
theorem hist_unfold (u v : IVec S8x32768 32) :
    k0_pay12 u v (iota .tc S8x16x8192 32 [1] iota_S8x16x8192_d1_w32)
      (addf (addf (broadcast S128x128 (Scalar.ofBits .f32 0x00000000#32)) (piece 0 slices_S8x32768_o0_0_S8x8192 u v)) (piece 8192 slices_S8x32768_o0_8192_S8x8192 u v))
      (piece 16384 slices_S8x32768_o0_16384_S8x8192 u v) = diagonal (stretches u v) := rfl

variable (x : Vec Ideal S1x8x32768 .f32)

/-- The histogram of one block, as the body computes it. -/
def histogram : FVec Ideal S16x16 .f32 :=
  k0_pay12 (k0_pay8 (k0_pay6 x) (k0_pay7 x) 1#32) (k0_pay9 (k0_pay5 x) (k0_pay6 x) (k0_pay7 x) 1#32) (iota .tc S8x16x8192 32 [1] iota_S8x16x8192_d1_w32)
    (k0_pay10 (k0_pay5 x) (k0_pay6 x) (k0_pay7 x) 1#32) (k0_pay11 (k0_pay5 x) (k0_pay6 x) (k0_pay7 x) 1#32)

/-- Bin `16 a + b`. -/
def slot (a b : Fin 16) : Fin 256 := ⟨16 * a.val + b.val, by have := a.isLt; have := b.isLt; omega⟩

/-- Entry `a`, `b` of the body's histogram counts the pixels of bin `16 a + b`. -/
theorem histogram_apply (a b : Fin 16) : histogram x (ix2 a b) = Otsu.count (pixels x) (slot a b) := by
  unfold histogram
  refine (congrFun (hist_unfold (k0_pay8 (k0_pay6 x) (k0_pay7 x) 1#32) (k0_pay9 (k0_pay5 x) (k0_pay6 x) (k0_pay7 x) 1#32)) (ix2 a b)).trans ?_
  rw [diagonal_apply]
  unfold Otsu.count
  rw [← (finProdFinEquiv (m := 8) (n := 32768)).sum_comp, Fintype.sum_prod_type]
  refine Finset.sum_congr rfl fun r _ => ?_
  rw [stretches_apply]
  refine Finset.sum_congr rfl fun q _ => ?_
  have e : pixels x (finProdFinEquiv (r, q)) = x (ix3 0 r q) := congrArg x (by
    have hq := q.isLt
    funext c
    match c with
    | ⟨0, _⟩ => rfl
    | ⟨1, _⟩ => exact Fin.ext (by show (q.val + 32768 * r.val) / 32768 = r.val; omega)
    | ⟨2, _⟩ => exact Fin.ext (by show (q.val + 32768 * r.val) % 32768 = q.val; omega))
  rw [e, pay8_apply, pay9_apply, pay5_apply]
  exact if_congr (high_low_eq_iff _ (Otsu.bin_toNat_lt _ _) a b) rfl rfl

end Cert.Proof.Ker

end
-- ==== Proof.BlockSplit.lean ====
/- One run of the kernel's body at exact values, its third part: the running sums that the body takes by products with
   triangular matrices are those of `Otsu`, so the array of variances holds `Otsu.variance` short of its last entry and
   minus one there; the body's search finds the best split, and the block it stores is the image thresholded at the
   centre of that split's bin. -/
module

public import proofs.«01_k».proof.Proof.BlockCount

@[expose] public section

noncomputable section

open scoped BigOperators

namespace Cert.Proof.Ker

open Cert.KernelIdeal Cert.KernelIdeal.Gen Idealize.ShloMosaic
open Idealize.ShloMosaic.ValueIdx

/-! ## The constant matrices -/

theorem word_toInt (n : Nat) (h : n < 2147483648) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

theorem rowIndex (a b : Fin 16) : iota .tc S16x16 32 [0] iota_S16x16_d0_w32 (ix2 a b) = BitVec.ofNat 32 a.val := iota_single_apply _ _ _ _ _ _
theorem columnIndex (a b : Fin 16) : iota .tc S16x16 32 [1] iota_S16x16_d1_w32 (ix2 a b) = BitVec.ofNat 32 b.val := iota_single_apply _ _ _ _ _ _

theorem le_word : ∀ a b : Fin 16, (((IntOp.cmpi .sle (BitVec.ofNat 32 a.val) (BitVec.ofNat 32 b.val)).setWidth 32).toInt) = if a ≤ b then 1 else 0 := by
  decide +kernel
theorem lt_word : ∀ a b : Fin 16, (((IntOp.cmpi .slt (BitVec.ofNat 32 a.val) (BitVec.ofNat 32 b.val)).setWidth 32).toInt) = if a < b then 1 else 0 := by
  decide +kernel
theorem slot_word : ∀ a b : Fin 16, IntOp.addi (IntOp.muli (BitVec.ofNat 32 a.val) 16#32) (BitVec.ofNat 32 b.val) = BitVec.ofNat 32 (slot a b).val := by
  decide +kernel

/-- Ones on and above the diagonal. -/
theorem pay13_apply (a b : Fin 16) : k0_pay13 (F := Ideal) (ix2 a b) = if a ≤ b then 1 else 0 := by
  have e : k0_pay13 (F := Ideal) (ix2 a b) = ((((IntOp.cmpi .sle (iota .tc S16x16 32 [0] iota_S16x16_d0_w32 (ix2 a b))
    (iota .tc S16x16 32 [1] iota_S16x16_d1_w32 (ix2 a b))).setWidth 32).toInt : ℝ) : EReal) := rfl
  rw [e, rowIndex, columnIndex, le_word]
  split <;> simp

/-- Ones above the diagonal. -/
theorem pay14_apply (a b : Fin 16) : k0_pay14 (F := Ideal) (ix2 a b) = if a < b then 1 else 0 := by
  have e : k0_pay14 (F := Ideal) (ix2 a b) = ((((IntOp.cmpi .slt (iota .tc S16x16 32 [0] iota_S16x16_d0_w32 (ix2 a b))
    (iota .tc S16x16 32 [1] iota_S16x16_d1_w32 (ix2 a b))).setWidth 32).toInt : ℝ) : EReal) := rfl
  rw [e, rowIndex, columnIndex, lt_word]
  split <;> simp

theorem pay15_apply (i : S16x16.Idx) : k0_pay15 (F := Ideal) i = 1 := Ideal.ofBits_one_f32

/-- The number of entry `a`, `b`. -/
theorem pay16_apply (a b : Fin 16) : k0_pay16 (ix2 a b) = BitVec.ofNat 32 (slot a b).val := by
  have e : k0_pay16 (ix2 a b) = IntOp.addi (IntOp.muli (iota .tc S16x16 32 [0] iota_S16x16_d0_w32 (ix2 a b)) 16#32)
    (iota .tc S16x16 32 [1] iota_S16x16_d1_w32 (ix2 a b)) := rfl
  rw [e, rowIndex, columnIndex, slot_word]

theorem slot_surjective (k : Fin 256) : ∃ a b, slot a b = k :=
  ⟨⟨k.val / 16, by have := k.isLt; omega⟩, ⟨k.val % 16, Nat.mod_lt _ (by decide)⟩, Fin.ext (by show 16 * (k.val / 16) + k.val % 16 = k.val; omega)⟩

/-! ## Running sums -/

/-- A sum over the 256 bins, sixteen by sixteen. -/
theorem sum_slots (f : Fin 256 → EReal) : ∑ k, f k = ∑ a, ∑ b, f (slot a b) := by
  rw [← (finProdFinEquiv (m := 16) (n := 16)).sum_comp, Fintype.sum_prod_type]
  refine Finset.sum_congr rfl fun a _ => Finset.sum_congr rfl fun b _ => congrArg f (Fin.ext ?_)
  show b.val + 16 * a.val = 16 * a.val + b.val
  omega

/-- A running sum over the 256 bins: the whole rows before, and the row's own part. -/
theorem run_slots (h : Fin 256 → EReal) (a b : Fin 16) :
    Otsu.run h (slot a b) = (∑ j, if j ≤ b then h (slot a j) else 0) + ∑ c, if c < a then ∑ j, h (slot c j) else 0 := by
  unfold Otsu.run
  rw [sum_slots]
  have e : ∀ c : Fin 16, (∑ j, if slot c j ≤ slot a b then h (slot c j) else 0)
      = (if c = a then ∑ j, if j ≤ b then h (slot a j) else 0 else 0) + (if c < a then ∑ j, h (slot c j) else 0) := by
    intro c
    rcases lt_trichotomy c a with l | l | l
    · rw [if_neg l.ne, if_pos l, zero_add]
      refine Finset.sum_congr rfl fun j _ => if_pos ?_
      have := Fin.lt_def.1 l
      have := j.isLt
      exact Fin.le_def.2 (by show 16 * c.val + j.val ≤ 16 * a.val + b.val; omega)
    · subst l
      rw [if_pos rfl, if_neg (lt_irrefl c), add_zero]
      refine Finset.sum_congr rfl fun j _ => if_congr ?_ rfl rfl
      rw [Fin.le_def, Fin.le_def]
      show 16 * c.val + j.val ≤ 16 * c.val + b.val ↔ _
      omega
    · rw [if_neg l.ne', if_neg (not_lt.2 l.le), zero_add]
      refine Finset.sum_eq_zero fun j _ => if_neg ?_
      have := Fin.lt_def.1 l
      have := b.isLt
      rw [Fin.le_def]
      show ¬ 16 * c.val + j.val ≤ 16 * a.val + b.val
      omega
  simp only [e]
  rw [Finset.sum_add_distrib, Finset.sum_ite_eq' Finset.univ a, if_pos (Finset.mem_univ a)]

/-- The product of two sixteen by sixteen arrays. -/
theorem product_apply (u v : FVec Ideal S16x16 .f32) (a b : Fin 16) :
    matmul dot_S16x16_S16x16_S16x16_1_0_0_1_n_n (some .fp32) u v (constant S16x16 .f32 0x00000000#32) (ix2 a b) = ∑ c, u (ix2 a c) * v (ix2 c b) := by
  refine (Ideal.matmul_plain_apply (M := 16) (K := 16) (N := 16) (some .fp32) u v _ a b).trans ?_
  show Ideal.ofBits .f32 0x00000000#32 + _ = _
  rw [Ideal.ofBits_zero_f32, zero_add]

/-- The product of two sixteen by sixteen arrays, the first one transposed. -/
theorem transposed_apply (u v : FVec Ideal S16x16 .f32) (a b : Fin 16) :
    matmul dot_S16x16_S16x16_S16x16_0_0_1_1_n_n (some .fp32) u v (constant S16x16 .f32 0x00000000#32) (ix2 a b) = ∑ c, u (ix2 c a) * v (ix2 c b) := by
  refine (Ideal.matmul_constant_zero_apply dot_S16x16_S16x16_S16x16_0_0_1_1_n_n (some .fp32) u v (ix2 a b)).trans ?_
  rw [← Equiv.sum_comp (contrEquiv1 dot_S16x16_S16x16_S16x16_0_0_1_1_n_n 16 rfl rfl).symm]
  refine Finset.sum_congr rfl fun c _ => ?_
  have hc := contrEquiv1_symm_val dot_S16x16_S16x16_S16x16_0_0_1_1_n_n 16 rfl rfl c
  have l : dot_S16x16_S16x16_S16x16_0_0_1_1_n_n.lhsIdx (ix2 a b) ((contrEquiv1 dot_S16x16_S16x16_S16x16_0_0_1_1_n_n 16 rfl rfl).symm c) = ix2 c a := by
    funext x; apply Fin.ext
    match x with
    | ⟨0, _⟩ => exact hc
    | ⟨1, _⟩ => rfl
  have r : dot_S16x16_S16x16_S16x16_0_0_1_1_n_n.rhsIdx (ix2 a b) ((contrEquiv1 dot_S16x16_S16x16_S16x16_0_0_1_1_n_n 16 rfl rfl).symm c) = ix2 c b := by
    funext x; apply Fin.ext
    match x with
    | ⟨0, _⟩ => exact hc
    | ⟨1, _⟩ => rfl
  rw [l, r]

/-- The running sums of an array, row after row, as the body computes them. -/
def running (u : FVec Ideal S16x16 .f32) : FVec Ideal S16x16 .f32 :=
  addf (matmul dot_S16x16_S16x16_S16x16_1_0_0_1_n_n (some .fp32) u (k0_pay13 (F := Ideal)) (constant S16x16 .f32 0x00000000#32))
    (matmul dot_S16x16_S16x16_S16x16_0_0_1_1_n_n (some .fp32) (k0_pay14 (F := Ideal))
      (matmul dot_S16x16_S16x16_S16x16_1_0_0_1_n_n (some .fp32) u (k0_pay15 (F := Ideal)) (constant S16x16 .f32 0x00000000#32)) (constant S16x16 .f32 0x00000000#32))

theorem running_apply (u : FVec Ideal S16x16 .f32) (h : Fin 256 → EReal) (hu : ∀ a b, u (ix2 a b) = h (slot a b)) (a b : Fin 16) :
    running u (ix2 a b) = Otsu.run h (slot a b) := by
  unfold running
  rw [addf_apply, product_apply, transposed_apply, run_slots]
  congr 1
  · refine Finset.sum_congr rfl fun j _ => ?_
    rw [pay13_apply, hu]
    split <;> simp
  · refine Finset.sum_congr rfl fun c _ => ?_
    rw [pay14_apply, product_apply]
    simp only [pay15_apply, mul_one, hu]
    split <;> simp

/-! ## Sums, greatest and least entries of an array -/

/-- The row of an index under one more axis, and its column. -/
def row (i : S1x16x16.Idx) : Fin 16 := i 1
def column (i : S1x16x16.Idx) : Fin 16 := i 2

/-- An array under one more axis. -/
theorem wide {α : Type} (z : S16x16.Idx → α) (i : S1x16x16.Idx) : shapeCast S1x16x16 z shapeCasts_S16x16_S1x16x16 i = z (ix2 (row i) (column i)) := by
  refine shapeCast_apply z _ _ _ ?_
  rw [Shape.rowMajor_val_three, Shape.rowMajor_val_two]
  have h0 : (i 0).val < 1 := (i 0).isLt
  show (i 1).val * 16 + (i 2).val = ((i 0).val * 16 + (i 1).val) * 16 + (i 2).val
  omega

/-- The indices under one more axis. -/
def wideEquiv : S1x16x16.Idx ≃ Fin 16 × Fin 16 where
  toFun i := (row i, column i)
  invFun p := ix3 0 p.1 p.2
  left_inv i := funext fun a => match a with
    | ⟨0, _⟩ => Subsingleton.elim (α := Fin 1) _ _
    | ⟨1, _⟩ => rfl
    | ⟨2, _⟩ => rfl
  right_inv _ := rfl

/-- The sum of an array's entries, as the body computes it. -/
def total (z : FVec Ideal S16x16 .f32) : EReal :=
  extractAt ![0, 0, 0] (shapeCast S1x1x1 (multiReduction (F := Ideal) .add [1, 2] S1 (shapeCast S1x16x16 z shapeCasts_S16x16_S1x16x16) 0x00000000#32
    reduces_S1x16x16_S1 (.inl rfl) rfl) shapeCasts_S1_S1x1x1) inpos_S1x1x1_p0_0_0

theorem total_eq (z : FVec Ideal S16x16 .f32) (h : Fin 256 → EReal) (hz : ∀ a b, z (ix2 a b) = h (slot a b)) : total z = ∑ k, h k := by
  refine (extract_one _).trans ((Ideal.multiReduction_add_total _ _ reduces_S1x16x16_S1 (by decide) _ _ _).trans ?_)
  rw [sum_slots, ← Fintype.sum_prod_type' (fun a b => h (slot a b)), ← wideEquiv.sum_comp]
  exact Finset.sum_congr rfl fun i _ => (wide z i).trans (hz _ _)

/-- The greatest of an array's entries, as the body computes it. -/
def greatest (z : FVec Ideal S16x16 .f32) : EReal :=
  extractAt ![0, 0, 0] (shapeCast S1x1x1 (multiReduction (F := Ideal) .maximumf [1, 2] S1 (shapeCast S1x16x16 z shapeCasts_S16x16_S1x16x16) 0xFF800000#32
    reduces_S1x16x16_S1 (.inl rfl) rfl) shapeCasts_S1_S1x1x1) inpos_S1x1x1_p0_0_0

theorem greatest_eq (z : FVec Ideal S16x16 .f32) (h : Fin 256 → EReal) (hz : ∀ a b, z (ix2 a b) = h (slot a b)) : greatest z = ⨆ k, h k := by
  refine (extract_one _).trans ((max_all reduces_S1x16x16_S1 _ _ _).trans ?_)
  refine le_antisymm (iSup_le fun i => ?_) (iSup_le fun k => ?_)
  · rw [wide, hz]
    exact le_iSup h _
  · obtain ⟨a, b, rfl⟩ := slot_surjective k
    have e : shapeCast S1x16x16 z shapeCasts_S16x16_S1x16x16 (ix3 0 a b) = z (ix2 a b) := wide z (ix3 0 a b)
    rw [← hz, ← e]
    exact le_iSup (shapeCast S1x16x16 z shapeCasts_S16x16_S1x16x16) _

/-- The word that the body finds: the least number of an entry equal to the greatest. -/
def winner (z : FVec Ideal S16x16 .f32) : BitVec 32 :=
  extractAt ![0, 0, 0] (shapeCast S1x1x1 (multiReductionI .minsi [1, 2] S1 (shapeCast S1x16x16
    (select (cmpf .oeq z (broadcast S16x16 (greatest z))) k0_pay16 (broadcast S16x16 256#32)) shapeCasts_S16x16_S1x16x16) 2147483647#32
    reduces_S1x16x16_S1 rfl) shapeCasts_S1_S1x1x1) inpos_S1x1x1_p0_0_0

theorem minsi_toInt (u v : BitVec 32) : (IntOp.minsi u v).toInt = min u.toInt v.toInt := by
  unfold IntOp.minsi
  by_cases h : u.slt v
  · rw [if_pos h, min_eq_left (le_of_lt (by simpa [BitVec.slt] using h))]
  · rw [if_neg h, min_eq_right (by simpa [BitVec.slt] using h)]

/-- Over an array that holds values of splits, none of them negative, and minus one at the last, it finds the best split. -/
theorem winner_eq (z : FVec Ideal S16x16 .f32) (v : Fin 256 → EReal) (hv : ∀ k, 0 ≤ v k)
    (hz : ∀ a b, z (ix2 a b) = if (slot a b).val < 255 then v (slot a b) else ((-1 : ℝ) : EReal)) (k : Fin 256) (hk : Otsu.IsBest v k) :
    winner z = BitVec.ofNat 32 k.val := by
  have hm : greatest z = v k := by
    rw [greatest_eq z (fun j => if j.val < 255 then v j else ((-1 : ℝ) : EReal)) hz]
    refine le_antisymm (iSup_le fun j => ?_) ?_
    · split
      · exact hk.le j ‹_›
      · exact le_trans (EReal.coe_nonpos.2 (by norm_num)) (hv k)
    · have := le_iSup (fun j : Fin 256 => if j.val < 255 then v j else ((-1 : ℝ) : EReal)) k
      rwa [if_pos hk.lt] at this
  have entry : ∀ i : S1x16x16.Idx, (shapeCast S1x16x16 (select (cmpf .oeq z (broadcast S16x16 (greatest z))) k0_pay16 (broadcast S16x16 256#32)) shapeCasts_S16x16_S1x16x16 i).toInt
      = if z (ix2 (row i) (column i)) = v k then ((slot (row i) (column i)).val : Int) else 256 := by
    intro i
    rw [wide, select_apply, cmpf_apply, broadcast_apply, broadcast_apply, hm, pay16_apply]
    have hs := (slot (row i) (column i)).isLt
    by_cases h : z (ix2 (row i) (column i)) = v k
    · rw [if_pos h, ← word_toInt _ (by omega), h]
      simp [Ideal.cmpf_def, Ideal.cmp, Scalar.select]
    · rw [if_neg h]
      simp [Ideal.cmpf_def, Ideal.cmp, Scalar.select, h]
  have hkl := k.isLt
  unfold winner
  refine (extract_one _).trans ((multiReductionI_eq_fold _ _ _ reduces_S1x16x16_S1 _ _).trans ?_)
  rw [drop_one]
  refine BitVec.eq_of_toInt_eq ?_
  rw [word_toInt _ (by omega)]
  show (Finset.fold IntOp.minsi 2147483647#32 _ Finset.univ).toInt = _
  rw [← Finset.fold_hom (op := IntOp.minsi) (op' := min) (m := BitVec.toInt) minsi_toInt]
  refine le_antisymm (Finset.fold_min_le _ |>.2 (.inr ?_)) (Finset.le_fold_min _ |>.2 ⟨?_, fun i _ => ?_⟩)
  · obtain ⟨a, b, e⟩ := slot_surjective k
    refine ⟨ix3 0 a b, Finset.mem_univ _, ?_⟩
    have hzk : z (ix2 a b) = v k := by rw [hz, e, if_pos hk.lt]
    rw [entry]
    show (if z (ix2 a b) = v k then ((slot a b).val : Int) else 256) ≤ _
    rw [if_pos hzk, e]
  · show (k.val : Int) ≤ 2147483647
    omega
  · rw [entry]
    split
    · rename_i h
      by_contra hn
      have hlt : (slot (row i) (column i)) < k := Fin.lt_def.2 (by omega)
      have := hk.first _ hlt
      rw [hz, if_pos (by have := Fin.lt_def.1 hlt; omega)] at h
      exact absurd h this.ne
    · omega

/-! ## The variances -/

/-- The array of variances that the body searches. -/
def spread (w s : FVec Ideal S16x16 .f32) (tw ts : EReal) : FVec Ideal S16x16 .f32 :=
  mulf (mulf w (subf (broadcast S16x16 tw) w))
    (mulf (subf (divf s (maximumf w (broadcast S16x16 (Scalar.ofBits .f32 0x2B8CBCCC#32))))
        (divf (subf (broadcast S16x16 ts) s) (maximumf (subf (broadcast S16x16 tw) w) (broadcast S16x16 (Scalar.ofBits .f32 0x2B8CBCCC#32)))))
      (subf (divf s (maximumf w (broadcast S16x16 (Scalar.ofBits .f32 0x2B8CBCCC#32))))
        (divf (subf (broadcast S16x16 ts) s) (maximumf (subf (broadcast S16x16 tw) w) (broadcast S16x16 (Scalar.ofBits .f32 0x2B8CBCCC#32))))))

theorem spread_apply (w s : FVec Ideal S16x16 .f32) (tw ts : EReal) (i : S16x16.Idx) :
    spread w s tw ts i = Otsu.between (w i) (tw - w i) (s i) (ts - s i) := rfl

/-- The variances, with minus one at the last entry. -/
def searched (m c : FVec Ideal S16x16 .f32) : FVec Ideal S16x16 .f32 :=
  select (cmpi .slt k0_pay16 (broadcast S16x16 255#32)) (spread (running m) (running c) (total m) (total c)) (broadcast S16x16 (Scalar.ofBits .f32 0xBF800000#32))

theorem minus_one : Ideal.ofBits .f32 0xBF800000#32 = ((-1 : ℝ) : EReal) := by
  simp [Ideal.ofBits, Ideal.ieee, -EReal.coe_mul, -EReal.coe_neg]; norm_num

theorem last_word : ∀ k : Fin 256, IntOp.cmpi .slt (BitVec.ofNat 32 k.val) 255#32 = if k.val < 255 then 1#1 else 0#1 := by decide +kernel

theorem searched_apply (m c : FVec Ideal S16x16 .f32) (h g : Fin 256 → EReal) (hm : ∀ a b, m (ix2 a b) = h (slot a b))
    (hc : ∀ a b, c (ix2 a b) = g (slot a b)) (a b : Fin 16) :
    searched m c (ix2 a b) = if (slot a b).val < 255 then Otsu.split h g (slot a b) else ((-1 : ℝ) : EReal) := by
  unfold searched Otsu.split
  rw [select_apply, spread_apply, running_apply m h hm, running_apply c g hc, total_eq m h hm, total_eq c g hc, ← minus_one,
    show cmpi .slt k0_pay16 (broadcast S16x16 255#32) (ix2 a b) = IntOp.cmpi .slt (k0_pay16 (ix2 a b)) 255#32 from rfl, pay16_apply, last_word]
  split
  · exact select_one _ _
  · exact select_zero _ _

/-- The body's search, of a histogram and the weighted centres. -/
theorem pay19_eq (m c : FVec Ideal S16x16 .f32) :
    extractAt ![0, 0, 0] (k0_pay19 m (k0_pay13 (F := Ideal)) (k0_pay14 (F := Ideal)) (k0_pay15 (F := Ideal)) k0_pay16 c (constant S16x16 .f32 0x00000000#32)) inpos_S1x1x1_p0_0_0
      = winner (searched m c) := rfl

/-! ## The threshold -/

variable (x : Vec Ideal S1x8x32768 .f32)

/-- The body's bin centres. -/
theorem pay17_apply (a b : Fin 16) : k0_pay17 (k0_pay3 x) (k0_pay4 x) (ix2 a b) = Otsu.centre (pixels x) (slot a b) := by
  rw [pay3_eq, pay4_eq]
  unfold Otsu.centre
  have hs := (slot a b).isLt
  have e : ∀ (l s : EReal), k0_pay17 (F := Ideal) l s (ix2 a b)
      = l + Ideal.div ((((k0_pay16 (ix2 a b)).toInt : ℝ) : EReal) + Ideal.ofBits .f32 0x3F000000#32) s := fun _ _ => rfl
  rw [e, pay16_apply, word_toInt _ (by omega)]
  rfl

/-- The threshold that the body takes, of the word of the best split. -/
def level (c : FVec Ideal S16x16 .f32) (w : BitVec 32) : EReal :=
  greatest (select (cmpi .eq k0_pay16 (broadcast S16x16 w)) c (broadcast S16x16 (Scalar.ofBits .f32 0xFF800000#32)))

theorem same_word : ∀ k j : Fin 256, BitVec.ofNat 32 j.val = BitVec.ofNat 32 k.val → j = k := fun k j h => by
  have := congrArg BitVec.toNat h
  have hk := k.isLt
  have hj := j.isLt
  rw [BitVec.toNat_ofNat, BitVec.toNat_ofNat, Nat.mod_eq_of_lt (by omega), Nat.mod_eq_of_lt (by omega)] at this
  exact Fin.ext this

theorem level_eq (c : FVec Ideal S16x16 .f32) (g : Fin 256 → EReal) (hc : ∀ a b, c (ix2 a b) = g (slot a b)) (k : Fin 256) :
    level c (BitVec.ofNat 32 k.val) = g k := by
  unfold level
  rw [greatest_eq _ (fun j => if j = k then g k else ⊥) (fun a b => by
    rw [select_apply, show cmpi .eq k0_pay16 (broadcast S16x16 (BitVec.ofNat 32 k.val)) (ix2 a b) = IntOp.cmpi .eq (k0_pay16 (ix2 a b)) (BitVec.ofNat 32 k.val) from rfl,
      pay16_apply, hc]
    by_cases h : slot a b = k
    · rw [if_pos h, h]
      simp [IntOp.cmpi, Scalar.select]
    · rw [if_neg h, show IntOp.cmpi .eq (BitVec.ofNat 32 (slot a b).val) (BitVec.ofNat 32 k.val) = 0#1 by
        simp only [IntOp.cmpi, beq_eq_false_iff_ne.2 (fun e => h (same_word _ _ e))]; rfl]
      exact (select_zero _ _).trans negInf)]
  refine le_antisymm (iSup_le fun j => ?_) ?_
  · split
    · exact le_rfl
    · exact bot_le
  · have := le_iSup (fun j : Fin 256 => if j = k then g k else ⊥) k
    rwa [if_pos rfl] at this

/-- What the body stores, of the grey image and the threshold. -/
def cut (y : FVec Ideal S8x32768 .f32) (t : EReal) : FVec Ideal S1x8x32768 .f32 :=
  shapeCast S1x8x32768 (select (cmpf .ogt y (broadcast S8x32768 t)) (broadcast S8x32768 (Scalar.ofBits .f32 0x437F0000#32))
    (broadcast S8x32768 (Scalar.ofBits .f32 0x00000000#32))) shapeCasts_S8x32768_S1x8x32768

theorem cut_apply (y : FVec Ideal S8x32768 .f32) (t : EReal) (r : Fin 8) (q : Fin 32768) :
    cut y t (ix3 0 r q) = Scalar.select (Ideal.cmp .ogt (y (ix2 r q)) t) (Ideal.ofBits .f32 0x437F0000#32) (Ideal.ofBits .f32 0x00000000#32) := by
  unfold cut
  rw [shapeCast_apply _ _ _ (ix2 r q) (by
    rw [Shape.rowMajor_val_three, Shape.rowMajor_val_two]
    show r.val * 32768 + q.val = (0 * 8 + r.val) * 32768 + q.val
    omega)]
  rfl

theorem pay1_eq (y : FVec Ideal S8x32768 .f32) (c : FVec Ideal S16x16 .f32) (w : BitVec 32) : k0_pay1 y k0_pay16 c w = cut y (level c w) := rfl

/-- The body's block, in these words. -/
theorem out_eq : out x = cut (k0_pay2 x) (level (k0_pay17 (k0_pay3 x) (k0_pay4 x))
    (winner (searched (histogram x) (mulf (histogram x) (k0_pay17 (k0_pay3 x) (k0_pay4 x)))))) := rfl

/-- One run of the body: the image thresholded at the centre of the best split's bin. -/
theorem out_apply (k : Fin 256) (hk : Otsu.IsBest (Otsu.variance (pixels x)) k) (r : Fin 8) (q : Fin 32768) :
    out x (ix3 0 r q) = Scalar.select (Ideal.cmp .ogt (x (ix3 0 r q)) (Otsu.centre (pixels x) k)) (Ideal.ofBits .f32 0x437F0000#32) (Ideal.ofBits .f32 0x00000000#32) := by
  rw [out_eq, cut_apply, pay2_apply]
  rw [winner_eq _ (Otsu.variance (pixels x)) (Otsu.variance_nonneg _) (searched_apply _ _ (Otsu.count (pixels x)) (fun j => Otsu.count (pixels x) j * Otsu.centre (pixels x) j)
    (histogram_apply x) (fun a b => by rw [mulf_apply, histogram_apply, pay17_apply])) k hk, level_eq _ _ (pay17_apply x)]

end Cert.Proof.Ker

end
-- ==== Proof.RefBins.lean ====
/- The reference at exact values, its first part: for the image in row `b`, the range, the scale, the bin of each pixel
   and the centre of each bin are those of `Otsu`. -/
module

public import proofs.«01_k».proof.Proof.RefRun
public import proofs.«01_k».proof.Proof.BlockSplit

@[expose] public section

noncomputable section

open scoped BigOperators

namespace Cert.Proof.Ref

open Cert.ReferenceIdeal Cert.ReferenceIdeal.Gen Idealize.ShloMosaic
open Idealize.ShloMosaic.ValueIdx
open Cert.Proof.Ker (posInf negInf word_toInt)

/-- The image in row `b`. -/
def line (r : Vec Ideal S32x262144 .f32) (b : Fin 32) : Otsu.Image := fun p => r (ix2 b p)

/-! ## Broadcasts read at an index -/

theorem column_apply {α : Type} (v : S32.Idx → α) (b : Fin 32) : broadcastInDim S32x1 ![0] bcast_S32_S32x1_0 v (ix2 b 0) = v (ix1 b) :=
  broadcastInDim_apply _ _ _ _ _ fun a => match a with | ⟨0, _⟩ => rfl

theorem acrossPixels_apply {α : Type} (v : S32x1.Idx → α) (b : Fin 32) (p : Fin 262144) :
    broadcastInDim S32x262144 ![0, 1] bcast_S32x1_S32x262144_0_1 v (ix2 b p) = v (ix2 b 0) :=
  broadcastInDim_apply _ _ _ _ _ fun a => match a with | ⟨0, _⟩ => rfl | ⟨1, _⟩ => rfl

theorem acrossBins_apply {α : Type} (v : S32x1.Idx → α) (b : Fin 32) (k : Fin 256) :
    broadcastInDim S32x256 ![0, 1] bcast_S32x1_S32x256_0_1 v (ix2 b k) = v (ix2 b 0) :=
  broadcastInDim_apply _ _ _ _ _ fun a => match a with | ⟨0, _⟩ => rfl | ⟨1, _⟩ => rfl

theorem downRows_apply {α : Type} (v : S1x256.Idx → α) (b : Fin 32) (k : Fin 256) :
    broadcastInDim S32x256 ![0, 1] bcast_S1x256_S32x256_0_1 v (ix2 b k) = v (ix2 0 k) :=
  broadcastInDim_apply _ _ _ _ _ fun a => match a with | ⟨0, _⟩ => rfl | ⟨1, _⟩ => rfl

theorem asRow_apply {α : Type} (v : S256.Idx → α) (k : Fin 256) : broadcastInDim S1x256 ![1] bcast_S256_S1x256_1 v (ix2 0 k) = v (ix1 k) :=
  broadcastInDim_apply _ _ _ _ _ fun a => match a with | ⟨0, _⟩ => rfl

/-! ## The range and the scale -/

/-- The least entry that a reduction meets, at any shapes. -/
theorem least_met {s t : Shape} {axes : List (Fin s.rank)} (h : s.ReducesTo axes t) (v : FVec Ideal s .f32) (j : t.Idx) :
    Host.reduce FloatOps.minimumf v (constant (F := Ideal) S_ .f32 0x7F800000#32) h h_S_ j = (Finset.univ.filter fun i => h.drop i = j).inf v := by
  rw [Host.reduce_eq_fold]
  show Finset.fold min (Ideal.ofBits .f32 0x7F800000#32) v _ = _
  rw [posInf]
  rfl

/-- The greatest entry that a reduction meets, at any shapes. -/
theorem most_met {s t : Shape} {axes : List (Fin s.rank)} (h : s.ReducesTo axes t) (v : FVec Ideal s .f32) (j : t.Idx) :
    Host.reduce FloatOps.maximumf v (constant (F := Ideal) S_ .f32 0xFF800000#32) h h_S_ j = (Finset.univ.filter fun i => h.drop i = j).sup v := by
  rw [Host.reduce_eq_fold]
  show Finset.fold max (Ideal.ofBits .f32 0xFF800000#32) v _ = _
  rw [negInf]
  rfl

/-- An entry lies in row `b` exactly when its first coordinate is `b`. -/
theorem in_row (i : S32x262144.Idx) (b : Fin 32) : reducesTo_S32x262144_S32_d1.drop i = ix1 b ↔ (i 0).val = b.val := by
  have e := reducesTo_S32x262144_S32_d1.drop_apply_val_of_eq i 0 0
  constructor
  · intro h
    rw [← e, h]
  · intro h
    exact funext fun a => match a with | ⟨0, _⟩ => Fin.ext (e.trans h)

theorem entry_eq (i : S32x262144.Idx) (b : Fin 32) (h : (i 0).val = b.val) : ∃ p : Fin 262144, i = ix2 b p :=
  ⟨⟨(i 1).val, (i 1).isLt⟩, funext fun a => match a with | ⟨0, _⟩ => Fin.ext h | ⟨1, _⟩ => rfl⟩

variable (r : Vec Ideal S32x262144 .f32) (b : Fin 32)

theorem rowMin_apply : rowMin (F := Ideal) r (ix2 b 0) = Otsu.least (line r b) := by
  unfold rowMin
  rw [column_apply, least_met]
  refine le_antisymm (le_iInf fun p => Finset.inf_le (Finset.mem_filter.2 ⟨Finset.mem_univ _, (in_row _ _).2 rfl⟩)) (Finset.le_inf fun i hi => ?_)
  obtain ⟨p, rfl⟩ := entry_eq i b ((in_row _ _).1 (Finset.mem_filter.1 hi).2)
  exact iInf_le (fun p => line r b p) p

theorem rowMax_apply : rowMax (F := Ideal) r (ix2 b 0) = Otsu.most (line r b) := by
  unfold rowMax
  rw [column_apply, most_met]
  refine le_antisymm (Finset.sup_le fun i hi => ?_) (iSup_le fun p => Finset.le_sup (f := r) (b := ix2 b p) (Finset.mem_filter.2 ⟨Finset.mem_univ _, (in_row _ _).2 rfl⟩))
  obtain ⟨p, rfl⟩ := entry_eq i b ((in_row _ _).1 (Finset.mem_filter.1 hi).2)
  exact le_iSup (fun p => line r b p) p

/-- The scale of a range, at an index. -/
theorem ratio_apply (u v : FVec Ideal S32x1 .f32) (i : S32x1.Idx) :
    Host.divf (broadcastInDim S32x1 ![] bcast_S_S32x1 (constant S_ .f32 0x43800000#32))
      (maximumf (subf u v) (broadcastInDim S32x1 ![] bcast_S_S32x1 (constant S_ .f32 0x2B8CBCCC#32))) i
      = Ideal.div (Ideal.ofBits .f32 0x43800000#32) (max (u i - v i) (Ideal.ofBits .f32 0x2B8CBCCC#32)) := rfl

theorem scale_apply : scale (F := Ideal) r (ix2 b 0) = Otsu.scale (line r b) := by
  unfold scale Otsu.scale
  rw [ratio_apply, rowMax_apply, rowMin_apply]

/-! ## The bins and their centres -/

/-- A scaled and clipped pixel, at an index. -/
theorem clipped_apply (u m s : FVec Ideal S32x262144 .f32) (i : S32x262144.Idx) :
    minsi (broadcastInDim S32x262144 ![] bcast_S_S32x262144 (id (constantI S_ 32 255#32)))
      (maxsi (broadcastInDim S32x262144 ![] bcast_S_S32x262144 (id (constantI S_ 32 0#32))) (fptosi 32 (mulf (subf u m) s))) i
      = IntOp.minsi 255#32 (IntOp.maxsi 0#32 (Ideal.fptosi 32 ((u i - m i) * s i))) := rfl

theorem bins_apply (p : Fin 262144) : bins (F := Ideal) r (ix2 b p) = Otsu.bin (line r b) (r (ix2 b p)) := by
  unfold bins Otsu.bin
  rw [clipped_apply, acrossPixels_apply, acrossPixels_apply, rowMin_apply, scale_apply]

theorem binNumber (k : Fin 256) : sitofp (F := Ideal) .f32 (iotaInDim S256 32 0) (ix1 k) = ((k.val : ℝ) : EReal) := by
  show (((BitVec.ofNat 32 k.val).toInt : ℝ) : EReal) = _
  rw [word_toInt _ (by have := k.isLt; omega), Int.cast_natCast]

/-- A quotient, at an index. -/
theorem quotient_apply {s : Shape} (u v : FVec Ideal s .f32) (i : s.Idx) : Host.divf u v i = Ideal.div (u i) (v i) := rfl

theorem centres_apply (k : Fin 256) : centres (F := Ideal) r (ix2 b k) = Otsu.centre (line r b) k := by
  unfold centres centre offset Otsu.centre
  rw [addf_apply, acrossBins_apply, rowMin_apply]
  rw [quotient_apply, acrossBins_apply, downRows_apply, addf_apply, asRow_apply, binNumber, scale_apply]
  rfl

end Cert.Proof.Ref

end
-- ==== Proof.RefCount.lean ====
/- The reference at exact values, its histogram: the scatter adds a one at (image, bin) for each pixel of all images, so
   entry (`b`, `k`) is the count of the pixels of image `b` in bin `k`. -/
module

public import proofs.«01_k».proof.Proof.RefBins
public import Idealize.ShloMosaic.Lib.Routing.OpsPair
public import Idealize.ShloMosaic.Lib.ValueIdxRank1

@[expose] public section

noncomputable section

open scoped BigOperators

namespace Cert.Proof.Ref

open Cert.ReferenceIdeal Cert.ReferenceIdeal.Gen Idealize.ShloMosaic
open Idealize.ShloMosaic.ValueIdx
open Cert.Proof.Ker (posInf negInf word_toInt)

/-! ## A scatter of scalars by index pairs -/

/-- Update `n` of a list of scalars, its two index words in row `n`, lands at (`a`, `c`) exactly when the words, read
    signed, are `a` and `c`. -/
theorem pair_lands {A C N w : Nat} (d : ScatterDims ⟨2, ![A, C]⟩ ⟨2, ![N, 2]⟩ ⟨1, ![N]⟩) (hi : d.insertedWindowDims = [0, 1])
    (hs : d.scatterDimsToOperandDims = [0, 1]) (hv : d.indexVectorDim = 1) (idx : IVec ⟨2, ![N, 2]⟩ w) (n : Fin N) (a : Fin A) (c : Fin C) :
    d.resultIdx? (ix1 n) idx = some (ix2 a c) ↔ (idx (ix2 n 0)).toInt = a.val ∧ (idx (ix2 n 1)).toInt = c.val := by
  have named : ∀ q : Fin 2, q ∈ d.scatterDimsToOperandDims := fun q => by rw [hs]; fin_cases q <;> simp
  have noWindow : ∀ q : Fin 2, d.window (ix1 n) q = 0 := fun q => by
    unfold ScatterDims.window
    rw [dif_neg fun h => (of_decide_eq_true (List.mem_filter.1 h).2) (by rw [hi]; fin_cases q <;> simp)]
  have word : ∀ q : Fin 2, d.siIdx (ix1 n) ⟨d.scatterDimsToOperandDims.idxOf q, List.idxOf_lt_length_iff.2 (named q)⟩ = ix2 n q := fun q => by
    funext e
    refine Fin.ext ?_
    unfold ScatterDims.siIdx
    match e with
    | ⟨0, _⟩ =>
      rw [dif_neg (by rw [hv]; exact Nat.zero_ne_one)]
      unfold ScatterDims.siCoord
      exact (Fin.val_cast _ _).trans ((fun X : Fin 1 => (match X with | ⟨0, _⟩ => rfl : ((ix1 n : (⟨1, ![N]⟩ : Shape).Idx) X).val = n.val)) _)
    | ⟨1, _⟩ =>
      rw [dif_pos hv.symm]
      show List.idxOf q d.scatterDimsToOperandDims = q.val
      rw [hs]
      fin_cases q <;> rfl
  have begins : ∀ q : Fin 2, d.start (ix1 n) idx q = (idx (ix2 n q)).toInt := fun q => by
    unfold ScatterDims.start
    rw [dif_pos (named q), word q]
  rw [Routing.resultIdx?_ix2, begins, begins, noWindow, noWindow]
  simp only [Nat.cast_zero, add_zero]

/-- What such a scatter of additions holds. -/
theorem pair_scatter {A C N w : Nat} (d : ScatterDims ⟨2, ![A, C]⟩ ⟨2, ![N, 2]⟩ ⟨1, ![N]⟩) (hi : d.insertedWindowDims = [0, 1])
    (hs : d.scatterDimsToOperandDims = [0, 1]) (hv : d.indexVectorDim = 1) (v : FVec Ideal ⟨2, ![A, C]⟩ .f32) (idx : IVec ⟨2, ![N, 2]⟩ w)
    (u : FVec Ideal ⟨1, ![N]⟩ .f32) (a : Fin A) (c : Fin C) :
    Host.scatterAdd d v idx u (ix2 a c)
      = v (ix2 a c) + ∑ n : Fin N, if (idx (ix2 n 0)).toInt = a.val ∧ (idx (ix2 n 1)).toInt = c.val then u (ix1 n) else 0 := by
  show v (ix2 a c) + ∑ j ∈ Finset.univ.filter (fun j => d.resultIdx? j idx = some (ix2 a c)), u j = _
  rw [Finset.sum_filter]
  refine congrArg (v (ix2 a c) + ·) (Fintype.sum_equiv idxEquiv1 _ _ fun j => ?_)
  obtain ⟨n, rfl⟩ : ∃ n : Fin N, j = ix1 n := ⟨j 0, eq_ix1 j⟩
  exact if_congr (pair_lands d hi hs hv idx n a c) rfl rfl

/-- A sum over a list read as rows of equal length. -/
theorem sum_rows {A B N : Nat} (h : A * B = N) (f : Fin N → EReal) :
    ∑ n, f n = ∑ a : Fin A, ∑ p : Fin B, f ⟨p.val + B * a.val, by subst h; exact (finProdFinEquiv (a, p)).isLt⟩ := by
  subst h
  rw [← finProdFinEquiv.sum_comp, Fintype.sum_prod_type]
  rfl

/-! ## The two index words of a pixel -/

/-- Where pixel `p` of image `a` lies among all pixels. -/
def place (a : Fin 32) (p : Fin 262144) : Fin 8388608 := ⟨p.val + 262144 * a.val, by have := p.isLt; have := a.isLt; omega⟩

theorem flat_apply {α : Type} (v : S32x262144.Idx → α) (a : Fin 32) (p : Fin 262144) :
    shapeCast S8388608 v shapeCasts_S32x262144_S8388608 (ix1 (place a p)) = v (ix2 a p) := by
  refine shapeCast_apply v _ _ _ ?_
  rw [Shape.rowMajor_val_two, Shape.rowMajor_val_one]
  show a.val * 262144 + p.val = p.val + 262144 * a.val
  omega

theorem paired_left (u v : IVec S8388608x1 32) (n : Fin 8388608) : paired (F := Ideal) u v (ix2 n 0) = u (ix2 n 0) :=
  concatenate_pair_apply_left (1 : Fin S8388608x2.rank) u v _ _ rfl _ fun e => match e with | ⟨0, _⟩ => rfl | ⟨1, _⟩ => rfl

theorem paired_right (u v : IVec S8388608x1 32) (n : Fin 8388608) : paired (F := Ideal) u v (ix2 n 1) = v (ix2 n 0) :=
  concatenate_pair_apply_right (1 : Fin S8388608x2.rank) u v _ _ rfl rfl _ (fun e he => match e, he with | ⟨0, _⟩, _ => rfl | ⟨1, _⟩, he => absurd rfl he) rfl

/-- An index that is not negative is not wrapped. -/
theorem wrapped_apply (m : BitVec 32) (v : IVec S8388608 32) (n : Fin 8388608) (h : 0 ≤ (v (ix1 n)).toInt) :
    wrapped (F := Ideal) m v (ix2 n 0) = v (ix1 n) := by
  unfold wrapped
  rw [broadcastInDim_apply _ _ _ _ (ix1 n) fun e => match e with | ⟨0, _⟩ => rfl]
  show Scalar.select (IntOp.cmpi .slt (v (ix1 n)) 0#32) _ _ = _
  rw [show IntOp.cmpi .slt (v (ix1 n)) 0#32 = 0#1 from by simp [IntOp.cmpi, BitVec.slt, not_lt.2 h]]
  exact select_zero _ _

theorem imageNo_apply (a : Fin 32) (p : Fin 262144) : imageNo (F := Ideal) (ix1 (place a p)) = BitVec.ofNat 32 a.val := by
  unfold imageNo
  rw [flat_apply, acrossPixels_apply, column_apply]
  rfl

theorem bin_toInt (x : Otsu.Image) (v : EReal) : (Otsu.bin x v).toInt = (Otsu.bin x v).toNat := by
  have := Otsu.bin_toNat_lt x v
  exact BitVec.toInt_eq_toNat_of_lt (by omega)

variable (r : Vec Ideal S32x262144 .f32) (b : Fin 32)

/-- A pixel's first index word is its image's number. -/
theorem first_word (a : Fin 32) (p : Fin 262144) (v : IVec S8388608x1 32) :
    (paired (F := Ideal) (wrapped (F := Ideal) 32#32 (imageNo (F := Ideal))) v (ix2 (place a p) 0)).toInt = a.val := by
  have e : (imageNo (F := Ideal) (ix1 (place a p))).toInt = a.val := by
    rw [imageNo_apply]
    exact word_toInt _ (by have := a.isLt; omega)
  rw [paired_left, wrapped_apply _ _ _ (by rw [e]; exact Int.natCast_nonneg _), e]

/-- A pixel's second index word is its bin. -/
theorem second_word (a : Fin 32) (p : Fin 262144) (u : IVec S8388608x1 32) :
    (paired (F := Ideal) u (wrapped (F := Ideal) 256#32 (shapeCast _ (bins (F := Ideal) r) shapeCasts_S32x262144_S8388608)) (ix2 (place a p) 1)).toInt
      = (Otsu.bin (line r a) (line r a p)).toNat := by
  have e : (shapeCast S8388608 (bins (F := Ideal) r) shapeCasts_S32x262144_S8388608 (ix1 (place a p))) = Otsu.bin (line r a) (line r a p) :=
    (flat_apply _ a p).trans (bins_apply r a p)
  rw [paired_right, wrapped_apply _ _ _ (by rw [e, bin_toInt]; exact Int.natCast_nonneg _), e, bin_toInt]

/-! ## The histogram -/

theorem hist_apply (k : Fin 256) : hist (F := Ideal) (bins (F := Ideal) r) (ix2 b k) = Otsu.count (line r b) k := by
  unfold hist
  refine (pair_scatter _ rfl rfl rfl _ _ _ b k).trans ?_
  rw [broadcastInDim_scalar_apply, constant_apply, Ideal.ofBits_zero_f32, zero_add, sum_rows (A := 32) (B := 262144) (by decide)]
  rw [Finset.sum_eq_single b]
  · refine Finset.sum_congr rfl fun p _ => ?_
    rw [broadcastInDim_scalar_apply, constant_apply, Ideal.ofBits_one_f32]
    refine if_congr ?_ rfl rfl
    have e1 := first_word b p (wrapped (F := Ideal) 256#32 (shapeCast _ (bins (F := Ideal) r) shapeCasts_S32x262144_S8388608))
    have e2 := second_word r b p (wrapped (F := Ideal) 32#32 (imageNo (F := Ideal)))
    exact (and_congr (by exact (iff_of_eq (congrArg (· = (b.val : Int)) e1)).trans (iff_true_intro rfl))
      (by exact (iff_of_eq (congrArg (· = (k.val : Int)) e2)).trans Nat.cast_inj)).trans (iff_of_eq (true_and _))
  · intro a _ ne
    refine Finset.sum_eq_zero fun p _ => if_neg fun h => ne (Fin.ext ?_)
    have e1 := first_word a p (wrapped (F := Ideal) 256#32 (shapeCast _ (bins (F := Ideal) r) shapeCasts_S32x262144_S8388608))
    exact Nat.cast_inj.1 (e1.symm.trans h.1)
  · exact fun h => absurd (Finset.mem_univ b) h

end Cert.Proof.Ref

end
-- ==== Proof.RefVariance.lean ====
/- The reference at exact values, its variances: a windowed sum over the entries up to each bin is the running sum, the
   running sum's last entry is the whole sum, and so the variance of each split is that of `Otsu`. -/
module

public import proofs.«01_k».proof.Proof.RefCount
public import Idealize.ShloMosaic.Lib.Routing.Ops

@[expose] public section

noncomputable section

open scoped BigOperators

namespace Cert.Proof.Ref

open Cert.ReferenceIdeal Cert.ReferenceIdeal.Gen Idealize.ShloMosaic
open Idealize.ShloMosaic.ValueIdx

/-! ## The running sum -/

/-- A left fold of additions from zero is the sum. -/
theorem fold_add {n : Nat} (g : Fin n → EReal) : (List.finRange n).foldl (fun a i => a + g i) 0 = ∑ i, g i := by
  have e : ∀ (l : List (Fin n)) (a : EReal), l.foldl (fun a i => a + g i) a = a + (l.map g).sum := by
    intro l
    induction l with
    | nil => intro a; simp
    | cons x l ih => intro a; rw [List.foldl_cons, ih, List.map_cons, List.sum_cons, add_assoc]
  rw [e, zero_add, ← List.ofFn_eq_map, List.sum_ofFn]

/-- A window of 256 that ends at bin `k` holds the entries up to `k`. -/
theorem window_sum (h : Fin 256 → EReal) (k : Fin 256) :
    (∑ n : Fin 256, if e : 255 ≤ k.val + n.val ∧ k.val + n.val - 255 < 256 then h ⟨k.val + n.val - 255, e.2⟩ else 0) = Otsu.run h k := by
  have hk := k.isLt
  unfold Otsu.run
  rw [← Finset.sum_filter]
  rw [← Finset.sum_filter_add_sum_filter_not Finset.univ (fun n : Fin 256 => 255 ≤ k.val + n.val)]
  rw [Finset.sum_eq_zero (s := Finset.univ.filter fun n : Fin 256 => ¬ 255 ≤ k.val + n.val)
    (fun n hn => dif_neg fun e => (Finset.mem_filter.1 hn).2 e.1), add_zero]
  refine Finset.sum_bij' (fun n hn => ⟨k.val + n.val - 255, by have := n.isLt; omega⟩) (fun j hj => ⟨j.val + 255 - k.val, ?_⟩) ?_ ?_ ?_ ?_ ?_
  · have : j.val ≤ k.val := Fin.le_def.1 (Finset.mem_filter.1 hj).2
    omega
  · intro n hn
    have := n.isLt
    exact Finset.mem_filter.2 ⟨Finset.mem_univ _, Fin.le_def.2 (by show k.val + n.val - 255 ≤ k.val; omega)⟩
  · intro j hj
    exact Finset.mem_filter.2 ⟨Finset.mem_univ _, by show 255 ≤ k.val + (j.val + 255 - k.val); omega⟩
  · intro n hn
    have : 255 ≤ k.val + n.val := (Finset.mem_filter.1 hn).2
    exact Fin.ext (by show k.val + n.val - 255 + 255 - k.val = n.val; omega)
  · intro j hj
    exact Fin.ext (by show k.val + (j.val + 255 - k.val) - 255 = j.val; omega)
  · intro n hn
    have : 255 ≤ k.val + n.val := (Finset.mem_filter.1 hn).2
    have := n.isLt
    exact dif_pos ⟨by omega, by omega⟩

theorem runSum_apply (h : FVec Ideal S32x256 .f32) (b : Fin 32) (k : Fin 256) :
    runSum (F := Ideal) h (ix2 b k) = Otsu.run (fun j => h (ix2 b j)) k := by
  rw [← window_sum]
  unfold runSum
  show Ideal.hostReduceWindowAdd ![1, 256] ![1, 1] ![0, 255] ![0, 0] reduceWindows_S32x256_S32x256_w1s1p0_0_w256s1p255_0 h _ (ix2 b k) = _
  unfold Ideal.hostReduceWindowAdd Host.reduceWindow
  rw [broadcastInDim_scalar_apply, constant_apply, Ideal.ofBits_zero_f32]
  refine (fold_add _).trans (Fintype.sum_equiv (finCongr (Routing.numel2 256)) _ _ fun n => ?_)
  have h0 : ((Routing.shape2 1 256).rowMajor.symm n 0).val = 0 := by rw [Routing.symm2]; rfl
  have h1 : ((Routing.shape2 1 256).rowMajor.symm n 1).val = n.val := by rw [Routing.symm2]; rfl
  have hn : n.val < 256 := (n.cast (Routing.numel2 256)).isLt
  have hb := b.isLt
  show _ = if e : 255 ≤ k.val + n.val ∧ k.val + n.val - 255 < 256 then h (ix2 b ⟨k.val + n.val - 255, e.2⟩) else 0
  split
  · next hin =>
    have g := hin 1
    change 255 ≤ k.val * 1 + ((Routing.shape2 1 256).rowMajor.symm n 1).val ∧ k.val * 1 + ((Routing.shape2 1 256).rowMajor.symm n 1).val - 255 < 256 at g
    rw [h1, Nat.mul_one] at g
    rw [dif_pos g]
    refine congrArg h (funext fun a => Fin.ext ?_)
    match a with
    | ⟨0, _⟩ =>
      show b.val * 1 + ((Routing.shape2 1 256).rowMajor.symm n 0).val - 0 = b.val
      omega
    | ⟨1, _⟩ =>
      show k.val * 1 + ((Routing.shape2 1 256).rowMajor.symm n 1).val - 255 = k.val + n.val - 255
      omega
  · next hin =>
    rw [dif_neg fun g => hin fun a => ?_]
    match a with
    | ⟨0, _⟩ =>
      show 0 ≤ b.val * 1 + ((Routing.shape2 1 256).rowMajor.symm n 0).val ∧ b.val * 1 + ((Routing.shape2 1 256).rowMajor.symm n 0).val - 0 < 32
      omega
    | ⟨1, _⟩ =>
      show 255 ≤ k.val * 1 + ((Routing.shape2 1 256).rowMajor.symm n 1).val ∧ k.val * 1 + ((Routing.shape2 1 256).rowMajor.symm n 1).val - 255 < 256
      omega

/-! ## The variances -/

/-- The bin after which split `k` cuts. -/
def cutAt (k : Fin 255) : Fin 256 := ⟨k.val, by have := k.isLt; omega⟩

theorem front_apply (w : FVec Ideal S32x256 .f32) (b : Fin 32) (k : Fin 255) : front (F := Ideal) w (ix2 b k) = w (ix2 b (cutAt k)) :=
  extractStridedSlice_apply _ _ _ _ _ fun a => match a with | ⟨0, _⟩ => (Nat.zero_add _).symm | ⟨1, _⟩ => (Nat.zero_add _).symm

theorem rest_apply (w : FVec Ideal S32x256 .f32) (b : Fin 32) (k : Fin 255) :
    rest (F := Ideal) w (ix2 b k) = w (ix2 b 255) - w (ix2 b (cutAt k)) := by
  unfold rest
  rw [subf_apply, front_apply, broadcastInDim_apply _ _ _ _ (ix2 b 0) fun a => match a with | ⟨0, _⟩ => rfl | ⟨1, _⟩ => rfl]
  rw [extractStridedSlice_apply _ _ _ _ (ix2 b 255) fun a => match a with | ⟨0, _⟩ => (Nat.zero_add _).symm | ⟨1, _⟩ => rfl]

theorem mean_apply (p w : FVec Ideal S32x255 .f32) (i : S32x255.Idx) :
    mean (F := Ideal) p w i = Ideal.div (p i) (max (w i) (Ideal.ofBits .f32 0x2B8CBCCC#32)) := rfl

/-- The variance, at a split, of two arrays of running sums. -/
theorem variance_apply (w p : FVec Ideal S32x256 .f32) (b : Fin 32) (k : Fin 255) :
    variance (F := Ideal) w p (ix2 b k) = Otsu.between (w (ix2 b (cutAt k))) (w (ix2 b 255) - w (ix2 b (cutAt k)))
      (p (ix2 b (cutAt k))) (p (ix2 b 255) - p (ix2 b (cutAt k))) := by
  unfold variance Otsu.between
  rw [mulf_apply, mulf_apply, mulf_apply, subf_apply, mean_apply, mean_apply, front_apply, front_apply, rest_apply, rest_apply]

variable (r : Vec Ideal S32x262144 .f32) (b : Fin 32)

theorem variances_apply (k : Fin 255) : variances (F := Ideal) r (ix2 b k) = Otsu.variance (line r b) (cutAt k) := by
  have ew : (fun j => hist (F := Ideal) (bins (F := Ideal) r) (ix2 b j)) = Otsu.count (line r b) := funext fun j => hist_apply r b j
  have ep : (fun j => mulf (F := Ideal) (φ := .f32) (hist (F := Ideal) (bins (F := Ideal) r)) (centres (F := Ideal) r) (ix2 b j))
      = fun j => Otsu.count (line r b) j * Otsu.centre (line r b) j :=
    funext fun j => by rw [mulf_apply, hist_apply, centres_apply]
  unfold variances Otsu.variance Otsu.split
  rw [variance_apply, runSum_apply, runSum_apply, runSum_apply, runSum_apply, ew, ep, Otsu.run_last, Otsu.run_last]

end Cert.Proof.Ref

end
-- ==== Proof.RefThreshold.lean ====
/- The reference at exact values, its threshold: the arg-max over a row of variances is the row's best split, and the
   entry taken there is that bin's centre. -/
module

public import proofs.«01_k».proof.Proof.RefVariance

@[expose] public section

noncomputable section

open scoped BigOperators

namespace Cert.Proof.Ref

open Cert.ReferenceIdeal Cert.ReferenceIdeal.Gen Idealize.ShloMosaic
open Idealize.ShloMosaic.ValueIdx
open Cert.Proof.Ker (posInf negInf word_toInt)

/-! ## The arg-max of a row -/

/-- Entry `m` is taken before entry `j`: it is greater, or as great and not later. -/
def Beats (v : Fin 255 → EReal) (m j : Fin 255) : Prop := v j < v m ∨ (v j = v m ∧ m ≤ j)

theorem Beats.trans {v : Fin 255 → EReal} {a b c : Fin 255} (h : Beats v a b) (g : Beats v b c) : Beats v a c := by
  rcases h with h | ⟨h, h'⟩ <;> rcases g with g | ⟨g, g'⟩
  · exact .inl (g.trans h)
  · exact .inl (g ▸ h)
  · exact .inl (h ▸ g)
  · exact .inr ⟨g.trans h, h'.trans g'⟩

theorem beats_self (v : Fin 255 → EReal) (a : Fin 255) : Beats v a a := .inr ⟨rfl, le_rfl⟩

/-- An entry with its index as a word. -/
def entry (v : Fin 255 → EReal) (j : Fin 255) : Ideal .f32 × BitVec 32 := (v j, BitVec.ofNat 32 j.val)

/-- The arg-max's body, in words of comparisons. -/
theorem body_eq (x y : EReal) (i j : BitVec 32) :
    reducer_argmax_f32_i32 (F := Ideal) (x, i) (y, j)
      = (if y < x then x else y, if y < x ∨ (x = y ∧ i.toInt < j.toInt) then i else j) := by
  have e1 : Ideal.cmp .ogt x y = if y < x then 1#1 else 0#1 := by by_cases h : y < x <;> simp [Ideal.cmp, h]
  have e2 : Ideal.cmp .une x x = 0#1 := by simp [Ideal.cmp]
  have e3 : Ideal.cmp .oeq x y = if x = y then 1#1 else 0#1 := by by_cases h : x = y <;> simp [Ideal.cmp, h]
  have e4 : IntOp.cmpi .slt i j = if i.toInt < j.toInt then 1#1 else 0#1 := by by_cases h : i.toInt < j.toInt <;> simp [IntOp.cmpi, BitVec.slt, h]
  unfold reducer_argmax_f32_i32
  simp only [Ideal.cmpf_def, e1, e2, e3, e4]
  by_cases h1 : y < x <;> by_cases h3 : x = y <;> by_cases h4 : i.toInt < j.toInt <;>
    simp [h1, h3, h4, IntOp.ori, IntOp.andi, Scalar.select]

/-- Of two entries the body keeps the one that is taken first. -/
theorem body_entry (v : Fin 255 → EReal) (a b : Fin 255) :
    ∃ m, reducer_argmax_f32_i32 (F := Ideal) (entry v a) (entry v b) = entry v m ∧ Beats v m a ∧ Beats v m b := by
  unfold entry
  rw [body_eq, word_toInt _ (by have := a.isLt; omega), word_toInt _ (by have := b.isLt; omega)]
  rcases lt_trichotomy (v b) (v a) with h | h | h
  · exact ⟨a, by rw [if_pos h, if_pos (.inl h)], beats_self v a, .inl h⟩
  · by_cases g : a.val < b.val
    · exact ⟨a, by rw [if_neg (by rw [h]; exact lt_irrefl _), if_pos (.inr ⟨h.symm, by exact_mod_cast g⟩), h], beats_self v a, .inr ⟨h, Fin.le_def.2 g.le⟩⟩
    · refine ⟨b, ?_, .inr ⟨h.symm, Fin.le_def.2 (not_lt.1 g)⟩, beats_self v b⟩
      rw [if_neg (by rw [h]; exact lt_irrefl _), if_neg]
      rintro (h' | ⟨_, h'⟩)
      · exact absurd h' (by rw [h]; exact lt_irrefl _)
      · exact g (by exact_mod_cast h')
  · refine ⟨b, ?_, .inl h, beats_self v b⟩
    rw [if_neg h.not_gt, if_neg]
    rintro (h' | ⟨h', _⟩)
    · exact h.not_gt h'
    · exact h.ne h'

/-- Folding the body over a list of entries keeps one that is taken before all. -/
theorem fold_entries (v : Fin 255 → EReal) (l : List (Fin 255)) (a : Fin 255) :
    ∃ m, (l.map (entry v)).foldl (reducer_argmax_f32_i32 (F := Ideal)) (entry v a) = entry v m ∧ Beats v m a ∧ ∀ j ∈ l, Beats v m j := by
  induction l generalizing a with
  | nil => exact ⟨a, rfl, beats_self v a, fun j h => absurd h List.not_mem_nil⟩
  | cons c l ih =>
    obtain ⟨n, e, ha, hc⟩ := body_entry v a c
    obtain ⟨m, e', hn, hl⟩ := ih n
    refine ⟨m, by rw [List.map_cons, List.foldl_cons, e, e'], hn.trans ha, fun j hj => ?_⟩
    rcases List.mem_cons.1 hj with rfl | h
    · exact hn.trans hc
    · exact hl j h

/-- The same from −∞, of entries none of which is −∞. -/
theorem fold_from_bottom (v : Fin 255 → EReal) (hv : ∀ j, ⊥ < v j) (l : List (Fin 255)) (hl : ∀ j, j ∈ l) :
    ∃ m, (l.map (entry v)).foldl (reducer_argmax_f32_i32 (F := Ideal)) ((⊥ : EReal), 0#32) = entry v m ∧ ∀ j, Beats v m j := by
  cases l with
  | nil => exact absurd (hl 0) List.not_mem_nil
  | cons a l =>
    have e : reducer_argmax_f32_i32 (F := Ideal) ((⊥ : EReal), 0#32) (entry v a) = entry v a := by
      unfold entry
      rw [body_eq, if_neg (hv a).not_gt, if_neg]
      rintro (h | ⟨h, _⟩)
      · exact (hv a).not_gt h
      · exact (hv a).ne h
    obtain ⟨m, e', ha, h⟩ := fold_entries v l a
    refine ⟨m, by rw [List.map_cons, List.foldl_cons, e, e'], fun j => ?_⟩
    rcases List.mem_cons.1 (hl j) with rfl | hj
    · exact ha
    · exact h j hj

/-- An entry's place in its row. -/
def across (i : S32x255.Idx) : Fin 255 := ⟨(i 1).val, (i 1).isLt⟩

theorem in_split_row (i : S32x255.Idx) (b : Fin 32) : reducesTo_S32x255_S32_d1.drop i = ix1 b ↔ i = ix2 b (across i) := by
  have e := reducesTo_S32x255_S32_d1.drop_apply_val_of_eq i 0 0
  constructor
  · intro h
    rw [h] at e
    exact funext fun a => match a with | ⟨0, _⟩ => Fin.ext e.symm | ⟨1, _⟩ => rfl
  · intro h
    exact funext fun a => match a with | ⟨0, _⟩ => Fin.ext (e.trans (congrArg (fun k : S32x255.Idx => (k 0).val) h))

/-- The arg-max of a row is the entry that is taken before all others. -/
theorem bestSplit_apply (v : FVec Ideal S32x255 .f32) (b : Fin 32) (hv : ∀ j : Fin 255, ⊥ < v (ix2 b j)) :
    ∃ m : Fin 255, bestSplit (F := Ideal) v (ix1 b) = BitVec.ofNat 32 m.val ∧ ∀ j, Beats (fun j => v (ix2 b j)) m j := by
  obtain ⟨m, e, h⟩ := fold_from_bottom (fun j => v (ix2 b j)) hv
    (((List.finRange S32x255.numel).filter fun n => reducesTo_S32x255_S32_d1.drop (S32x255.rowMajor.symm n) = ix1 b).map fun n => across (S32x255.rowMajor.symm n))
    (fun j => List.mem_map.2 ⟨S32x255.rowMajor (ix2 b j), List.mem_filter.2 ⟨List.mem_finRange _, by
      rw [Equiv.symm_apply_apply]
      exact decide_eq_true ((in_split_row _ b).2 rfl)⟩, by rw [Equiv.symm_apply_apply]; rfl⟩)
  refine ⟨m, ?_, h⟩
  unfold bestSplit
  rw [Ideal.argReduce_eq_reduce2, Host.reduce2_eq_foldl_fiber]
  have el : Host.argReduceFiber v (iotaInDim S32x255 32 1) reducesTo_S32x255_S32_d1 (ix1 b)
      = (((List.finRange S32x255.numel).filter fun n => reducesTo_S32x255_S32_d1.drop (S32x255.rowMajor.symm n) = ix1 b).map
        fun n => across (S32x255.rowMajor.symm n)).map (entry fun j => v (ix2 b j)) := by
    unfold Host.argReduceFiber
    rw [List.map_map]
    refine List.map_congr_left fun n hn => ?_
    have hi := (in_split_row _ b).1 (of_decide_eq_true (List.mem_filter.1 hn).2)
    exact Prod.ext (congrArg v hi) rfl
  rw [el, constant_apply, negInf]
  exact congrArg Prod.snd e

/-! ## The entry taken -/

theorem asCube_apply {α : Type} (v : S32x1.Idx → α) (b : Fin 32) : shapeCast S32x1x1 v shapeCasts_S32x1_S32x1x1 (ix3 b 0 0) = v (ix2 b 0) := by
  refine shapeCast_apply v _ _ _ ?_
  rw [Shape.rowMajor_val_two, Shape.rowMajor_val_three]
  show b.val * 1 + 0 = (b.val * 1 + 0) * 1 + 0
  omega

/-- An index that is not negative stays as it is. -/
theorem column_index (a : IVec S32 32) (b : Fin 32) (h : 0 ≤ (a (ix1 b)).toInt) : column (F := Ideal) a (ix3 b 0 0) = a (ix1 b) := by
  unfold column
  rw [asCube_apply]
  show Scalar.select (IntOp.cmpi .slt (broadcastInDim S32x1 ![0] bcast_S32_S32x1_0 a (ix2 b 0)) 0#32) _ (broadcastInDim S32x1 ![0] bcast_S32_S32x1_0 a (ix2 b 0)) = _
  rw [column_apply, show IntOp.cmpi .slt (a (ix1 b)) 0#32 = 0#1 from by simp [IntOp.cmpi, BitVec.slt, not_lt.2 h]]
  exact select_zero _ _

/-- The gather takes, from each row, the entry at the row's index, where that is in range. -/
theorem gather_apply (c : FVec Ideal S32x256 .f32) (i : IVec S32x1x1 32) (b : Fin 32) (k : Fin 256) (h : (i (ix3 b 0 0)).toInt = k.val) :
    Host.gather gather_S32x256_S32x1x1_S32x1_n_1_0_0_1_2_11 c i (ix2 b 0) = c (ix2 b k) := by
  have hk := k.isLt
  refine congrArg c (funext fun a => Fin.ext ?_)
  show gather_S32x256_S32x1x1_S32x1_n_1_0_0_1_2_11.start (ix2 b 0) i a + gather_S32x256_S32x1x1_S32x1_n_1_0_0_1_2_11.batchCoord (ix2 b 0) a
    + gather_S32x256_S32x1x1_S32x1_n_1_0_0_1_2_11.offCoord (ix2 b 0) a = _
  have m0 : (0 : Fin S32x256.rank) ∈ gather_S32x256_S32x1x1_S32x1_n_1_0_0_1_2_11.operandBatchingDims := List.mem_singleton.2 rfl
  have m1 : (1 : Fin S32x256.rank) ∈ gather_S32x256_S32x1x1_S32x1_n_1_0_0_1_2_11.startIndexMap := List.mem_singleton.2 rfl
  have c1 : (1 : Fin S32x256.rank) ∈ gather_S32x256_S32x1x1_S32x1_n_1_0_0_1_2_11.collapsedSliceDims := List.mem_singleton.2 rfl
  have n1 : (1 : Fin S32x256.rank) ∉ gather_S32x256_S32x1x1_S32x1_n_1_0_0_1_2_11.operandBatchingDims := fun g =>
    absurd (List.mem_singleton.1 g) (by decide)
  obtain rfl | rfl : a = 0 ∨ a = 1 := match a with | ⟨0, _⟩ => .inl rfl | ⟨1, _⟩ => .inr rfl
  · rw [GatherDims.start_batching _ _ _ _ m0, GatherDims.offCoord_eq_zero _ _ _ fun g => ((GatherDims.mem_sKept _ _).1 g).2 m0, Nat.zero_add, Nat.add_zero]
    unfold GatherDims.batchCoord
    rw [dif_pos m0]
    rfl
  · rw [GatherDims.batchCoord_eq_zero _ _ _ n1, GatherDims.offCoord_eq_zero _ _ _ fun g => ((GatherDims.mem_sKept _ _).1 g).1 c1]
    unfold GatherDims.start
    rw [dif_pos m1]
    have e : ∀ q, gather_S32x256_S32x1x1_S32x1_n_1_0_0_1_2_11.siIdx (ix2 b 0) q = ix3 b 0 0 := fun q =>
      funext fun d => match d with
        | ⟨0, _⟩ => rfl
        | ⟨1, _⟩ => rfl
        | ⟨2, _⟩ => Subsingleton.elim (α := Fin 1) _ _
    rw [e, h]
    show min (k.val : Int).toNat 255 + 0 + 0 = k.val
    rw [Int.toNat_natCast]
    omega

/-- The one index of a row is in range exactly when the row's check says so. -/
theorem check_apply (i : IVec S32x1x1 1) (b : Fin 32) (h : i (ix3 b 0 0) = 1#1) :
    Host.reduce IntOp.andi i (constantI S_ 1 1#1) reducesTo_S32x1x1_S32x1_d2 h_S_ (ix2 b 0) = 1#1 := by
  have hf : (Finset.univ.filter fun j => reducesTo_S32x1x1_S32x1_d2.drop j = ix2 b 0) = {ix3 b 0 0} := by
    ext j
    rw [Finset.mem_filter, Finset.mem_singleton]
    have e := reducesTo_S32x1x1_S32x1_d2.drop_apply_val_of_eq j 0 0
    constructor
    · rintro ⟨_, g⟩
      rw [g] at e
      exact funext fun a => match a with
        | ⟨0, _⟩ => Fin.ext e.symm
        | ⟨1, _⟩ => Subsingleton.elim (α := Fin 1) _ _
        | ⟨2, _⟩ => Subsingleton.elim (α := Fin 1) _ _
    · rintro rfl
      exact ⟨Finset.mem_univ _, funext fun a => match a with
        | ⟨0, _⟩ => Fin.ext e
        | ⟨1, _⟩ => Subsingleton.elim (α := Fin 1) _ _⟩
  rw [Host.reduce_eq_fold, hf, Finset.fold_singleton, h]
  rfl

theorem lookup_apply (c : FVec Ideal S32x256 .f32) (a : IVec S32 32) (b : Fin 32) (k : Fin 256) (h : (a (ix1 b)).toInt = k.val) :
    lookup (F := Ideal) c a (ix2 b 0) = c (ix2 b k) := by
  have hc : (column (F := Ideal) a (ix3 b 0 0)).toInt = k.val := by
    rw [column_index a b (by rw [h]; exact Int.natCast_nonneg _), h]
  have hk := k.isLt
  unfold lookup
  generalize column (F := Ideal) a = i at hc
  unfold picked
  rw [select_apply, check_apply, select_one, gather_apply c i b k hc]
  show IntOp.andi (IntOp.cmpi .sge (i (ix3 b 0 0)) 0#32) (IntOp.cmpi .sle (i (ix3 b 0 0)) 255#32) = 1#1
  have e1 : (255#32 : BitVec 32).toInt = 255 := by decide
  have h0 : BitVec.sle 0#32 (i (ix3 b 0 0)) = true := decide_eq_true (by rw [hc]; exact Int.natCast_nonneg _)
  have h1 : BitVec.sle (i (ix3 b 0 0)) 255#32 = true := decide_eq_true (by rw [hc, e1]; omega)
  show IntOp.andi (BitVec.ofBool (BitVec.sle 0#32 (i (ix3 b 0 0)))) (BitVec.ofBool (BitVec.sle (i (ix3 b 0 0)) 255#32)) = 1#1
  rw [h0, h1]
  rfl

/-! ## The threshold -/

variable (r : Vec Ideal S32x262144 .f32) (b : Fin 32)

/-- An image's threshold is the centre of its best split. -/
theorem threshold_apply : ∃ k, Otsu.IsBest (Otsu.variance (line r b)) k ∧ threshold (F := Ideal) r (ix2 b 0) = Otsu.centre (line r b) k := by
  obtain ⟨m, e, h⟩ := bestSplit_apply (variances (F := Ideal) r) b fun j => by
    rw [variances_apply]
    exact lt_of_lt_of_le EReal.bot_lt_zero (Otsu.variance_nonneg _ _)
  have hm := m.isLt
  simp only [variances_apply] at h
  refine ⟨cutAt m, ⟨hm, fun j hj => ?_, fun j hj => ?_⟩, ?_⟩
  · rcases h ⟨j.val, hj⟩ with g | g
    · exact g.le
    · exact g.1.le
  · have hj' : j.val < m.val := Fin.lt_def.1 hj
    rcases h ⟨j.val, by omega⟩ with g | g
    · exact g
    · exact absurd (Fin.le_def.1 g.2) (not_le.2 hj')
  · unfold threshold
    rw [lookup_apply _ _ b (cutAt m) (by rw [e]; exact word_toInt _ (by omega)), centres_apply]

end Cert.Proof.Ref

end
-- ==== Proof.Equation.lean ====
/- The equation: the kernel's result array and the reference's are the same function of the argument. Both hold the same
   pixels of each image, laid out in other shapes, and both threshold an image at the centre of its best split, of which
   there is one. -/
module

public import proofs.«01_k».proof.Proof.RefThreshold
public import proofs.«01_k».proof.Proof.BlockSplit

@[expose] public section

noncomputable section

open scoped BigOperators

namespace Cert.Proof.Equation

open Cert.ReferenceIdeal Cert.ReferenceIdeal.Gen Idealize.ShloMosaic
open Idealize.ShloMosaic.ValueIdx

variable (g : Vec Ideal S32x512x512 .f32)

/-- The place of a pixel of the square image in the image's row. -/
def along (i j : Fin 512) : Fin 262144 := ⟨i.val * 512 + j.val, by have := i.isLt; have := j.isLt; omega⟩

/-- Every pixel of the row is one of the square image. -/
theorem along_surjective (p : Fin 262144) : ∃ i j, p = along i j :=
  ⟨⟨p.val / 512, by have := p.isLt; omega⟩, ⟨p.val % 512, Nat.mod_lt _ (by decide)⟩, Fin.ext (by show p.val = p.val / 512 * 512 + p.val % 512; omega)⟩

theorem rows_apply (b : Fin 32) (i j : Fin 512) : Ref.rows (F := Ideal) g (ix2 b (along i j)) = g (ix3 b i j) := by
  refine shapeCast_apply g _ _ _ ?_
  rw [Shape.rowMajor_val_three, Shape.rowMajor_val_two]
  show (b.val * 512 + i.val) * 512 + j.val = b.val * 262144 + (i.val * 512 + j.val)
  omega

theorem stacked_apply (b : Fin 32) (i j : Fin 512) : Ker.image (Ker.stacked (F := Ideal) g) b (Ker.at3 (along i j)) = g (ix3 b i j) := by
  refine shapeCast_apply g _ _ _ ?_
  rw [Shape.rowMajor_val_three, Shape.rowMajor_val_three]
  show (b.val * 512 + i.val) * 512 + j.val = (b.val * 8 + (i.val * 512 + j.val) / 32768) * 32768 + (i.val * 512 + j.val) % 32768
  omega

/-- The kernel and the reference see the same pixels of image `b`. -/
theorem pixels_eq (b : Fin 32) : Ker.pixels (Ker.image (Ker.stacked (F := Ideal) g) b) = Ref.line (Ref.rows (F := Ideal) g) b := by
  funext p
  obtain ⟨i, j, rfl⟩ := along_surjective p
  exact (stacked_apply g b i j).trans (rows_apply g b i j).symm

/-- The kernel's array, read at a pixel of the square image. -/
theorem kernel_apply (y : Vec Ideal Cert.KernelIdeal.S32x8x32768 .f32) (b : Fin 32) (i j : Fin 512) :
    shapeCast Cert.KernelIdeal.S32x512x512 (Ker.outAll y) Cert.KernelIdeal.Gen.shapeCasts_S32x8x32768_S32x512x512 (ix3 b i j)
      = Ker.out (Ker.image y b) (Ker.at3 (along i j)) := by
  refine shapeCast_apply (Ker.outAll y) _ _ (ix3 b (Ker.at3 (along i j) 1) (Ker.at3 (along i j) 2)) ?_
  rw [Shape.rowMajor_val_three, Shape.rowMajor_val_three]
  show (b.val * 8 + (i.val * 512 + j.val) / 32768) * 32768 + (i.val * 512 + j.val) % 32768 = (b.val * 512 + i.val) * 512 + j.val
  omega

/-- The reference's array, read at a pixel of the square image. -/
theorem binarised_apply (t : Vec Ideal S32x1 .f32) (b : Fin 32) (i j : Fin 512) :
    Ref.binarised (F := Ideal) g t (ix3 b i j)
      = Scalar.select (Ideal.cmp .ogt (g (ix3 b i j)) (t (ix2 b 0))) (Ideal.ofBits .f32 0x437F0000#32) (Ideal.ofBits .f32 0x00000000#32) := by
  unfold Ref.binarised
  rw [select_apply, cmpf_apply, broadcastInDim_scalar_apply, broadcastInDim_scalar_apply,
    broadcastInDim_apply _ _ _ _ (ix3 b 0 0) fun a => match a with | ⟨0, _⟩ => rfl | ⟨1, _⟩ => rfl | ⟨2, _⟩ => rfl, Ref.asCube_apply]
  rfl

/-- The two binary images are the same. -/
theorem binary_eq : shapeCast Cert.KernelIdeal.S32x512x512 (Ker.outAll (Ker.stacked (F := Ideal) g)) Cert.KernelIdeal.Gen.shapeCasts_S32x8x32768_S32x512x512
    = Ref.binarised (F := Ideal) g (Ref.threshold (F := Ideal) (Ref.rows (F := Ideal) g)) := by
  funext l
  obtain ⟨b, i, j, rfl⟩ : ∃ (b : Fin 32) (i j : Fin 512), l = ix3 b i j := ⟨l 0, l 1, l 2, eq_ix3 l⟩
  obtain ⟨k, hk, e⟩ := Ref.threshold_apply (Ref.rows (F := Ideal) g) b
  have hk' := hk
  rw [← pixels_eq] at hk'
  rw [kernel_apply, binarised_apply, e]
  refine (Ker.out_apply (Ker.image (Ker.stacked (F := Ideal) g) b) k hk' _ _).trans ?_
  rw [pixels_eq]
  exact congrArg (fun v => Scalar.select (Ideal.cmp .ogt v (Otsu.centre (Ref.line (Ref.rows (F := Ideal) g) b) k)) _ _) (stacked_apply g b i j)

/-- The kernel's result is the reference's. -/
theorem result_eq (x : Vec Ideal S32x512x512x3 .f32) : Ker.result (F := Ideal) x = Ref.result (F := Ideal) x :=
  congrArg (Ref.threefold (F := Ideal)) (binary_eq (Ref.grey (F := Ideal) x))

end Cert.Proof.Equation

end
-- ==== Proof.lean ====
/- The certificate's claims, put together: the three frames, `preserves`, and `algebraic` from the two runs
   (`Ker.run`, `Ref.run`) and the equation of their results (`Equation.result_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference ends without fault, its argument unchanged and its semaphore counters at zero. -/
theorem frame_reference : Cert.quiescent_ReferenceIdeal := fun m ρ _ =>
  (θ_run _ _ _).mono (fun r h => ⟨fun c => (h c).2, Idealize.ShloMosaic.sem_eq_zero_of_no_sems (by decide) r.2⟩) (Ref.run m ρ)

/-- Kernel and reference end with the same array. -/
theorem same_function : Cert.algebraic_KernelIdeal_ReferenceIdeal := fun m g m' g' _ hm =>
  ⟨fun c => Ker.result (m ((c.tc : Thread Cert.KernelIdeal.nD Cert.KernelIdeal.τ).loc Cert.KernelIdeal.main_arg0)), Ker.run m g,
    (θ_run _ _ _).mono (fun _ h c => ⟨(h c).1.trans (by rw [hm c]; exact (Equation.result_eq _).symm), (h c).2⟩) (Ref.run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_function⟩

end Cert.Proof

end
